-- ==== Defs.lean ====
def Pre_Kernel [hPre_swaps_Kernel : Cert.Pre_swaps_Kernel.Facts] (m : (ℓ : Loc Cert.Kernel.nD Cert.Kernel.τ Cert.Kernel.sig) → Buf (Elt Bits) ℓ) : Prop :=
  ∀ c : Dev Cert.Kernel.nD,
    (Cert.Pre_swaps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_stays_Kernel [hPre_stays_Kernel : Cert.Pre_stays_Kernel.Facts] (m : (ℓ : Loc Cert.Kernel.nD Cert.Kernel.τ Cert.Kernel.sig) → Buf (Elt Bits) ℓ) : Prop :=
  ∀ c : Dev Cert.Kernel.nD,
    (Cert.Pre_stays_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_swaps_Kernel : Cert.Pre_swaps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_swaps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_stays_Kernel [hPre_stays_Kernel : Cert.Pre_stays_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_stays_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_swaps_ReferenceIdeal [hPre_swaps_ReferenceIdeal : Cert.Pre_swaps_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swaps_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_stays_ReferenceIdeal [hPre_stays_ReferenceIdeal : Cert.Pre_stays_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_stays_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_swaps_Kernel : Cert.Pre_swaps_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_stays_Kernel [hKernel : Cert.Kernel.Facts] [hPre_stays_Kernel : Cert.Pre_stays_Kernel.Facts] : Prop :=
  ∀ (m : (ℓ : Loc Cert.Kernel.nD Cert.Kernel.τ Cert.Kernel.sig) → Buf (Elt Bits) ℓ) (g : Dev Cert.Kernel.nD → PrngReg), Pre_Kernel_stays_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_swaps_Kernel : Cert.Pre_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_stays_Kernel [hKernelIdeal : Cert.KernelIdeal.Facts] [hPre_stays_Kernel : Cert.Pre_stays_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_stays_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_swaps_ReferenceIdeal [hReferenceIdeal : Cert.ReferenceIdeal.Facts] [hPre_swaps_ReferenceIdeal : Cert.Pre_swaps_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swaps_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_stays_ReferenceIdeal [hReferenceIdeal : Cert.ReferenceIdeal.Facts] [hPre_stays_ReferenceIdeal : Cert.Pre_stays_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_stays_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_swaps_Kernel : Cert.Pre_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![2, 512, 512]⟩ (Layout.meshBlock [2, 2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![2, 512, 512]⟩ (Layout.meshBlock [2, 2, 2] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_stays_Kernel [hKernelIdeal : Cert.KernelIdeal.Facts] [hReferenceIdeal : Cert.ReferenceIdeal.Facts] [hPre_stays_Kernel : Cert.Pre_stays_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_stays_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![2, 512, 512]⟩ (Layout.meshBlock [2, 2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![2, 512, 512]⟩ (Layout.meshBlock [2, 2, 2] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_swaps_Kernel : Cert.Pre_swaps_Kernel.Facts) (hPre_stays_Kernel : Cert.Pre_stays_Kernel.Facts) (hPre_swaps_ReferenceIdeal : Cert.Pre_swaps_ReferenceIdeal.Facts) (hPre_stays_ReferenceIdeal : Cert.Pre_stays_ReferenceIdeal.Facts),
    quiescent_Kernel (hKernel := hKernel) (hPre_swaps_Kernel := hPre_swaps_Kernel)
    ∧ quiescent_Kernel_pre_stays_Kernel (hKernel := hKernel) (hPre_stays_Kernel := hPre_stays_Kernel)
    ∧ quiescent_KernelIdeal (hKernelIdeal := hKernelIdeal) (hPre_swaps_Kernel := hPre_swaps_Kernel)
    ∧ quiescent_KernelIdeal_pre_stays_Kernel (hKernelIdeal := hKernelIdeal) (hPre_stays_Kernel := hPre_stays_Kernel)
    ∧ quiescent_ReferenceIdeal (hReferenceIdeal := hReferenceIdeal)
    ∧ quiescent_ReferenceIdeal_pre_swaps_ReferenceIdeal (hReferenceIdeal := hReferenceIdeal) (hPre_swaps_ReferenceIdeal := hPre_swaps_ReferenceIdeal)
    ∧ quiescent_ReferenceIdeal_pre_stays_ReferenceIdeal (hReferenceIdeal := hReferenceIdeal) (hPre_stays_ReferenceIdeal := hPre_stays_ReferenceIdeal)
    ∧ preserves_Kernel_KernelIdeal
    ∧ algebraic_KernelIdeal_ReferenceIdeal (hKernelIdeal := hKernelIdeal) (hReferenceIdeal := hReferenceIdeal) (hPre_swaps_Kernel := hPre_swaps_Kernel)
    ∧ algebraic_KernelIdeal_ReferenceIdeal_pre_stays_Kernel (hKernelIdeal := hKernelIdeal) (hReferenceIdeal := hReferenceIdeal) (hPre_stays_Kernel := hPre_stays_Kernel)
-- ==== Pre_stays_Kernel.lean ====
abbrev S1x512x512 : Shape := ⟨3, ![1, 512, 512]⟩
abbrev S2 : Shape := ⟨1, ![2]⟩
abbrev S_ : Shape := ⟨0, ![]⟩

class Facts : Prop where
  reducesTo_S2_S_d0 : S2.ReducesTo [0] S_
  h_S_ : 0 < S_.numel

variable [Facts]

def fn {F : FTy → Type} [FloatOps F] (main_arg0 : FVec F S1x512x512 .f32) (main_arg1 : IVec S2 32) : IVec S_ 1 :=
  let main_v0 : IVec S2 32 := iotaInDim S2 32 0
  let main_v1 : IVec S2 1 := cmpi .eq main_arg1 main_v0
  let main_c : IVec S_ 1 := constantI S_ 1 1#1
  let main_v2 : IVec S_ 1 := (fun x v => Host.reduce IntOp.andi x v reducesTo_S2_S_d0 h_S_) main_v1 main_c
  main_v2
-- ==== Pre_stays_ReferenceIdeal.lean ====
abbrev S2x512x512 : Shape := ⟨3, ![2, 512, 512]⟩
abbrev S2 : Shape := ⟨1, ![2]⟩
abbrev S_ : Shape := ⟨0, ![]⟩

class Facts : Prop where
  reducesTo_S2_S_d0 : S2.ReducesTo [0] S_
  h_S_ : 0 < S_.numel

variable [Facts]

def fn {F : FTy → Type} [FloatOps F] (main_arg0 : FVec F S2x512x512 .f32) (main_arg1 : IVec S2 32) : IVec S_ 1 :=
  let main_v0 : IVec S2 32 := iotaInDim S2 32 0
  let main_v1 : IVec S2 1 := cmpi .eq main_arg1 main_v0
  let main_c : IVec S_ 1 := constantI S_ 1 1#1
  let main_v2 : IVec S_ 1 := (fun x v => Host.reduce IntOp.andi x v reducesTo_S2_S_d0 h_S_) main_v1 main_c
  main_v2
-- ==== Pre_swaps_Kernel.lean ====
abbrev S1x512x512 : Shape := ⟨3, ![1, 512, 512]⟩
abbrev S2 : Shape := ⟨1, ![2]⟩
abbrev S_ : Shape := ⟨0, ![]⟩

class Facts : Prop where
  bcast_S_S2 : S_.BroadcastsInDim S2 (![] : Fin 0 → Fin S2.rank)
  reducesTo_S2_S_d0 : S2.ReducesTo [0] S_
  h_S_ : 0 < S_.numel

variable [Facts]

def fn {F : FTy → Type} [FloatOps F] (main_arg0 : FVec F S1x512x512 .f32) (main_arg1 : IVec S2 32) : IVec S_ 1 :=
  let main_v0 : IVec S2 32 := iotaInDim S2 32 0
  let main_c : IVec S_ 32 := constantI S_ 32 1#32
  let main_v1 : IVec S2 32 := broadcastInDim S2 ![] bcast_S_S2 main_c
  let main_v2 : IVec S2 32 := subi main_v1 main_v0
  let main_v3 : IVec S2 1 := cmpi .eq main_arg1 main_v2
  let main_c_0 : IVec S_ 1 := constantI S_ 1 1#1
  let main_v4 : IVec S_ 1 := (fun x v => Host.reduce IntOp.andi x v reducesTo_S2_S_d0 h_S_) main_v3 main_c_0
  main_v4
-- ==== Pre_swaps_ReferenceIdeal.lean ====
abbrev S2x512x512 : Shape := ⟨3, ![2, 512, 512]⟩
abbrev S2 : Shape := ⟨1, ![2]⟩
abbrev S_ : Shape := ⟨0, ![]⟩

class Facts : Prop where
  bcast_S_S2 : S_.BroadcastsInDim S2 (![] : Fin 0 → Fin S2.rank)
  reducesTo_S2_S_d0 : S2.ReducesTo [0] S_
  h_S_ : 0 < S_.numel

variable [Facts]

def fn {F : FTy → Type} [FloatOps F] (main_arg0 : FVec F S2x512x512 .f32) (main_arg1 : IVec S2 32) : IVec S_ 1 :=
  let main_v0 : IVec S2 32 := iotaInDim S2 32 0
  let main_c : IVec S_ 32 := constantI S_ 32 1#32
  let main_v1 : IVec S2 32 := broadcastInDim S2 ![] bcast_S_S2 main_c
  let main_v2 : IVec S2 32 := subi main_v1 main_v0
  let main_v3 : IVec S2 1 := cmpi .eq main_arg1 main_v2
  let main_c_0 : IVec S_ 1 := constantI S_ 1 1#1
  let main_v4 : IVec S_ 1 := (fun x v => Host.reduce IntOp.andi x v reducesTo_S2_S_d0 h_S_) main_v3 main_c_0
  main_v4
-- ==== Kernel.lean ====
abbrev S1x512x512 : Shape := ⟨3, ![1, 512, 512]⟩
abbrev S2 : Shape := ⟨1, ![2]⟩
abbrev S_ : Shape := ⟨0, ![]⟩
abbrev S4 : Shape := ⟨1, ![4]⟩
abbrev S1 : Shape := ⟨1, ![1]⟩
abbrev S1x128x512 : Shape := ⟨3, ![1, 128, 512]⟩

abbrev nBuf : Space → Nat
  | .hbm => 3
  | .vmem => 4
  | .smem => 1
  | _ => 0

abbrev bufTy : (tb : Table) → Fin (tcTables nBuf tb) → BufTy
  | .hbm, ⟨0, _⟩ => ⟨S1x512x512, .f32⟩
  | .hbm, ⟨1, _⟩ => ⟨S2, .i32⟩
  | .hbm, ⟨2, _⟩ => ⟨S1x512x512, .bf16⟩
  | .local _ .vmem, ⟨0, _⟩ => ⟨S1x512x512, .bf16⟩
  | .local _ .vmem, ⟨1, _⟩ => ⟨S1x512x512, .f32⟩
  | .local _ .vmem, ⟨2, _⟩ => ⟨S1x512x512, .i8⟩
  | .local _ .vmem, ⟨3, _⟩ => ⟨S1x512x512, .i8⟩
  | .local _ .smem, ⟨0, _⟩ => ⟨S2, .i32⟩
  | _, _ => ⟨S1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.smem, 0, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_29 : BitVec 32 := 0#32
  let c0_i32_27 : BitVec 32 := 0#32
  let c4_i32_28 : BitVec 32 := 4#32
  let v26 : BitVec 32 := Scalar.muli c0_i32_27 c4_i32_28
  let v27 : BitVec 32 := Scalar.addi c0_i32_29 v26
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_30 : BitVec 32 := 2#32
  let v28 : BitVec 32 := Scalar.muli v5 c2_i32_30
  let v29 : BitVec 32 := Scalar.addi v27 v28
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_31 : BitVec 32 := 1#32
  let v30 : BitVec 32 := Scalar.muli v8 c1_i32_31
  let v31 : BitVec 32 := Scalar.addi v29 v30
  v31.toNat
def k0_dev2 (d0 : Dev nD) : Nat :=
  let c0_i32_35 : BitVec 32 := 0#32
  let c1_i32_33 : BitVec 32 := 1#32
  let c4_i32_34 : BitVec 32 := 4#32
  let v32 : BitVec 32 := Scalar.muli c1_i32_33 c4_i32_34
  let v33 : BitVec 32 := Scalar.addi c0_i32_35 v32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v34 : BitVec 32 := Scalar.muli v5 c2_i32_36
  let v35 : BitVec 32 := Scalar.addi v33 v34
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v36 : BitVec 32 := Scalar.muli v8 c1_i32_37
  let v37 : BitVec 32 := Scalar.addi v35 v36
  v37.toNat
def k0_off1 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v38 : Index := Scalar.indexCast v2
  ![v38.toNat]
def k0_dev3 (d0 : Dev nD) (v39 : BitVec 32) : Nat :=
  let c0_i32_56 : BitVec 32 := 0#32
  let c4_i32_55 : BitVec 32 := 4#32
  let v56 : BitVec 32 := Scalar.muli v39 c4_i32_55
  let v57 : BitVec 32 := Scalar.addi c0_i32_56 v56
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_57 : BitVec 32 := 2#32
  let v58 : BitVec 32 := Scalar.muli v5 c2_i32_57
  let v59 : BitVec 32 := Scalar.addi v57 v58
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_58 : BitVec 32 := 1#32
  let v60 : BitVec 32 := Scalar.muli v8 c1_i32_58
  let v61 : BitVec 32 := Scalar.addi v59 v60
  v61.toNat

def k0_dev4 (d0 : Dev nD) (v39 : BitVec 32) : Nat :=
  let c0_i32_83 : BitVec 32 := 0#32
  let c4_i32_82 : BitVec 32 := 4#32
  let v84 : BitVec 32 := Scalar.muli v39 c4_i32_82
  let v85 : BitVec 32 := Scalar.addi c0_i32_83 v84
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_84 : BitVec 32 := 2#32
  let v86 : BitVec 32 := Scalar.muli v5 c2_i32_84
  let v87 : BitVec 32 := Scalar.addi v85 v86
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_85 : BitVec 32 := 1#32
  let v88 : BitVec 32 := Scalar.muli v8 c1_i32_85
  let v89 : BitVec 32 := Scalar.addi v87 v88
  v89.toNat
def k0_dev5 (d0 : Dev nD) (v39 : BitVec 32) : Nat :=
  let c0_i32_110 : BitVec 32 := 0#32
  let c4_i32_109 : BitVec 32 := 4#32
  let v112 : BitVec 32 := Scalar.muli v39 c4_i32_109
  let v113 : BitVec 32 := Scalar.addi c0_i32_110 v112
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_111 : BitVec 32 := 2#32
  let v114 : BitVec 32 := Scalar.muli v5 c2_i32_111
  let v115 : BitVec 32 := Scalar.addi v113 v114
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_112 : BitVec 32 := 1#32
  let v116 : BitVec 32 := Scalar.muli v8 c1_i32_112
  let v117 : BitVec 32 := Scalar.addi v115 v116
  v117.toNat
def k0_dev6 (d0 : Dev nD) (v39 : BitVec 32) : Nat :=
  let c0_i32_137 : BitVec 32 := 0#32
  let c4_i32_136 : BitVec 32 := 4#32
  let v140 : BitVec 32 := Scalar.muli v39 c4_i32_136
  let v141 : BitVec 32 := Scalar.addi c0_i32_137 v140
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_138 : BitVec 32 := 2#32
  let v142 : BitVec 32 := Scalar.muli v5 c2_i32_138
  let v143 : BitVec 32 := Scalar.addi v141 v142
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_139 : BitVec 32 := 1#32
  let v144 : BitVec 32 := Scalar.muli v8 c1_i32_139
  let v145 : BitVec 32 := Scalar.addi v143 v144
  v145.toNat

def k0_chk1 (d0 : Dev nD) (v39 : BitVec 32) : Prop :=
  ((k0_dev3 d0 v39) < nD) ∧
  ((k0_dev4 d0 v39) < nD) ∧
  ((k0_dev5 d0 v39) < nD) ∧
  ((k0_dev6 d0 v39) < nD)
theorem k0_dev3_lt : ∀ (d0 : Dev nD) (v39 : BitVec 32) (k0_hw1 : k0_chk1 d0 v39), (k0_dev3 d0 v39) < nD := fun d0 v39 k0_hw1 => k0_hw1.1
theorem k0_dev4_lt : ∀ (d0 : Dev nD) (v39 : BitVec 32) (k0_hw1 : k0_chk1 d0 v39), (k0_dev4 d0 v39) < nD := fun d0 v39 k0_hw1 => k0_hw1.2.1
theorem k0_dev5_lt : ∀ (d0 : Dev nD) (v39 : BitVec 32) (k0_hw1 : k0_chk1 d0 v39), (k0_dev5 d0 v39) < nD := fun d0 v39 k0_hw1 => k0_hw1.2.2.1
theorem k0_dev6_lt : ∀ (d0 : Dev nD) (v39 : BitVec 32) (k0_hw1 : k0_chk1 d0 v39), (k0_dev6 d0 v39) < nD := fun d0 v39 k0_hw1 => k0_hw1.2.2.2

abbrev stage0_0 : Fin 1 → Memref sig .tc .vmem S1x512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x512x512 : Shape := ⟨3, ![2, 512, 512]⟩
abbrev S2 : Shape := ⟨1, ![2]⟩
abbrev S_ : Shape := ⟨0, ![]⟩
abbrev S2x1 : Shape := ⟨2, ![2, 1]⟩

abbrev nBuf : Space → Nat
  | .hbm => 30
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x512x512, .f32⟩
  | .hbm, ⟨14, _⟩ => ⟨S_, .f32⟩
  | .hbm, ⟨15, _⟩ => ⟨S2x512x512, .f32⟩
  | .hbm, ⟨16, _⟩ => ⟨S2x512x512, .f32⟩
  | .hbm, ⟨17, _⟩ => ⟨S2x512x512, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S2x512x512, .f32⟩
  | .hbm, ⟨22, _⟩ => ⟨S2x512x512, .f32⟩
  | .hbm, ⟨23, _⟩ => ⟨S_, .f32⟩
  | .hbm, ⟨24, _⟩ => ⟨S2x512x512, .f32⟩
  | .hbm, ⟨25, _⟩ => ⟨S2x512x512, .f32⟩
  | .hbm, ⟨26, _⟩ => ⟨S_, .f32⟩
  | .hbm, ⟨27, _⟩ => ⟨S2x512x512, .f32⟩
  | .hbm, ⟨28, _⟩ => ⟨S2x512x512, .f32⟩
  | .hbm, ⟨29, _⟩ => ⟨S2x512x512, .bf16⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_cst_2 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩

abbrev nD : Nat := 1
abbrev τ : Topo := Topo.v7x

variable {F : FTy → Type} [FloatOps F]
-- ==== Proof.Words.Pre.lean ====
/-
# What the two preconditions say of the permutation

`swaps` holds of a device's arguments exactly when its copy of `pi` is `[1, 0]`, and `stays` when it is `[0, 1]`.
-/
module

public import proofs.«01_k».proof.Defs
public import proofs.«01_k».proof.Proof.Gen.Pre_swaps_Kernel
public import proofs.«01_k».proof.Proof.Gen.Pre_stays_Kernel
public import Idealize.ShloMosaic.Lib.ReduceAll

@[expose] public section

noncomputable section

namespace Cert.Words

open Idealize.ShloMosaic

variable {F : FTy → Type} [FloatOps F]

/-- The two entries of `pi`: `[1, 0]` when the blocks are swapped, `[0, 1]` when they stay. -/
def entry (s : Bool) (n : Nat) : BitVec 32 := if (s ^^ decide (1 ≤ n)) then 1#32 else 0#32

theorem eq_of_cmpi {w : Nat} {a b : BitVec w} (h : IntOp.cmpi .eq a b = 1#1) : a = b := by
  by_contra hab
  have : IntOp.cmpi .eq a b = 0#1 := by rw [IntOp.cmpi]; simp [beq_eq_false_iff_ne.2 hab]
  rw [this] at h; exact absurd h (by decide)

instance : Subsingleton Cert.Pre_swaps_Kernel.S_.Idx := ⟨fun a b => funext fun d => d.elim0⟩
instance : Subsingleton Cert.Pre_stays_Kernel.S_.Idx := ⟨fun a b => funext fun d => d.elim0⟩

theorem of_swaps (x : FVec F Cert.Pre_swaps_Kernel.S1x512x512 .f32) (w : IVec Cert.Pre_swaps_Kernel.S2 32)
    (h : Cert.Pre_swaps_Kernel.fn (F := F) x w = fun _ => 1#1) (i : Cert.Pre_swaps_Kernel.S2.Idx) :
    w i = entry true (i 0).val := by
  have e := eq_of_cmpi (Host.reduce_andi_all _ _ _ _ (fun d => d.elim0) (congrFun h _) i)
  rw [e]
  have hi : (i 0).val < 2 := (i 0).isLt
  show (1#32 - BitVec.ofNat 32 (i 0).val) = _
  revert hi; generalize (i 0).val = n; intro hi
  interval_cases n <;> decide

theorem of_stays (x : FVec F Cert.Pre_stays_Kernel.S1x512x512 .f32) (w : IVec Cert.Pre_stays_Kernel.S2 32)
    (h : Cert.Pre_stays_Kernel.fn (F := F) x w = fun _ => 1#1) (i : Cert.Pre_stays_Kernel.S2.Idx) :
    w i = entry false (i 0).val := by
  have e := eq_of_cmpi (Host.reduce_andi_all _ _ _ _ (fun d => d.elim0) (congrFun h _) i)
  rw [e]
  have hi : (i 0).val < 2 := (i 0).isLt
  show BitVec.ofNat 32 (i 0).val = _
  revert hi; generalize (i 0).val = n; intro hi
  interval_cases n <;> decide

end Cert.Words

end
-- ==== Proof.KernelIdeal.Protocol.lean ====
/-
# The talk between the devices, as a schedule of rounds

Device `c` of the eight quantises its block of `x` in four chunks of 128 rows and copies each chunk to one peer. The
peer is read from the permutation `pi`: the device itself when `pi` is the identity, and the device four further on
(modulo eight) when `pi` swaps the two blocks. Both permutations are handled by one proof: `s = true` says that the
blocks are swapped, `s = false` that they stay.

The semaphores of device `c`, who waits on each, who raises it, and what a raise brings:

* the barrier semaphore: `c` waits for two units. The two devices with `c`'s coordinates on the last two mesh axes
  (`peer false c` and `peer true c`; one of them is `c`) raise it by one each. The raise of the device that `c` copies to
  brings that device's landing buffer; the other raise brings nothing.
* receive semaphore `k`: `c` waits for the bytes of chunk `k`. They come from the peer's copy, and bring the chunk of `c`'s
  landing buffer, holding the quantised chunk of the peer's block.
* send semaphore `k`: `c` waits for the bytes of chunk `k`, which its own copy adds once the chunk is read. They bring
  back the chunk of the buffer of quantised values.
* the remaining semaphores serve local copies.

Levels: the barrier is below the receive semaphores, and the local copies and send semaphores are below both. A device
waits on its barrier owing only receive semaphores' bytes, and on a receive or send semaphore owing nothing.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Transfers
public import Idealize.ShloMosaic.Lib.Tactic

@[expose] public section

noncomputable section

namespace Cert.KernelIdealTalk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds, the talk's rounds (duties `Bool`), the local copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

/-! ## The peers -/

/-- The device that `c` copies to (and that copies to `c`). -/
def dst (s : Bool) (c : Dev nD) : Dev nD := ⟨(c.val + if s then 4 else 0) % 8, Nat.mod_lt _ (by decide)⟩
/-- The device at place `b` of the first mesh axis with `c`'s other two coordinates. -/
def peer (b : Bool) (c : Dev nD) : Dev nD :=
  ⟨(if b then 4 else 0) + c.val % 4, by
    have h1 := Nat.mod_lt c.val (show 0 < 4 by decide)
    have h2 : (if b then 4 else 0) ≤ 4 := by cases b <;> decide
    show _ < 8
    omega⟩
/-- `c`'s place on the first mesh axis. -/
def place (c : Dev nD) : Bool := decide (4 ≤ c.val)

theorem dst_dst (s : Bool) (c : Dev nD) : dst s (dst s c) = c := by revert s c; decide
theorem dst_eq_peer (s : Bool) (c : Dev nD) : dst s c = peer (s ^^ place c) c := by revert s c; decide
theorem place_peer (b : Bool) (c : Dev nD) : place (peer b c) = b := by revert b c; decide
theorem peer_peer (b : Bool) (c : Dev nD) : peer (place c) (peer b c) = c := by revert b c; decide
/-- If `c` is not the peer that `peer b c` copies to, `c` copies elsewhere. -/
theorem xor_place (s b : Bool) (c : Dev nD) : (place c = (s ^^ place (peer b c))) ↔ b = (s ^^ place c) := by
  revert s b c; decide
/-- Each device copies to one device, and each device is copied to by one. -/
def swap (s : Bool) : Dev nD ≃ Dev nD := ⟨dst s, dst s, dst_dst s, dst_dst s⟩
/-- The raises of the barrier semaphores: raise `b` of device `c` is the raise from place `place c` of device `peer b c`. -/
def raises : Dev nD × Bool ≃ Dev nD × Bool :=
  ⟨fun cb => (peer cb.2 cb.1, place cb.1), fun cb => (peer cb.2 cb.1, place cb.1),
    fun cb => Prod.ext (peer_peer cb.2 cb.1) (place_peer cb.2 cb.1), fun cb => Prod.ext (peer_peer cb.2 cb.1) (place_peer cb.2 cb.1)⟩

/-! ## Buffers, chunks and semaphores -/

theorem chunk_inb (k : Fin 4) (a : Fin 3) : (![0, 128 * k.val, 0] : Fin 3 → Nat) a + S1x128x512.size a ≤ S1x512x512.size a := by
  revert k a; decide
theorem sem_inb (k : Fin 4) (a : Fin 1) : (![k.val] : Fin 1 → Nat) a + S1.size a ≤ S4.size a := by revert k a; decide

/-- Rows `128 k` to `128 k + 127`. -/
abbrev rows (k : Fin 4) : Rect S1x512x512 := Rect.unit (s := S1x512x512) ![0, 128 * k.val, 0] S1x128x512.size (chunk_inb k)

abbrev aM : Memref sig .tc .hbm S1x512x512 .f32 := Memref.whole main_arg0
abbrev piM : Memref sig .tc .hbm S2 .i32 := Memref.whole main_arg1
abbrev oM : Memref sig .tc .vmem S1x512x512 .bf16 := Memref.whole cc0_stg0_0
abbrev xM : Memref sig .tc .vmem S1x512x512 .f32 := Memref.whole cc0_scratch0
abbrev sM : Memref sig .tc .vmem S1x512x512 .i8 := Memref.whole cc0_scratch1
abbrev rM : Memref sig .tc .vmem S1x512x512 .i8 := Memref.whole cc0_scratch2
abbrev pM : Memref sig .tc .smem S2 .i32 := Memref.whole cc0_scratch3

/-- Chunk `k` of a buffer. -/
abbrev chunk {sp : Space} {e : EltTy} (b : Memref sig .tc sp S1x512x512 e) (k : Fin 4) : Memref sig .tc sp S1x128x512 e :=
  b.slice (rows k) (fun _ => rfl)

/-- Semaphore `k` of an array of four. -/
abbrev nth (a : DmaSems sig S4) (k : Fin 4) : DmaSem sig :=
  ((a.slice (Rect.unit (s := S4) ![k.val] S1.size (sem_inb k))).squeeze S_ squeezes_S1_S_).sem

abbrev barS : Sem sig := (SemArray.scalar (sig.barrier 0 rfl) : Sems sig S_).sem
abbrev piS : DmaSem sig := cc0_scratch4.sem
abbrev loadS (k : Fin 4) : DmaSem sig := nth cc0_scratch5 k
abbrev sendS (k : Fin 4) : DmaSem sig := nth cc0_scratch6 k
abbrev recvS (k : Fin 4) : DmaSem sig := nth cc0_scratch7 k

abbrev barCell (c : Dev nD) : GSem nD τ sig := ((c : Thread nD τ), .reg barS)
abbrev sendCell (k : Fin 4) (c : Dev nD) : GSem nD τ sig := ((c : Thread nD τ), .dma (sendS k))
abbrev recvCell (k : Fin 4) (c : Dev nD) : GSem nD τ sig := ((c : Thread nD τ), .dma (recvS k))

theorem sendS_val (k : Fin 4) : (sendS k).val = 6 + k.val := by revert k; decide
theorem recvS_val (k : Fin 4) : (recvS k).val = 10 + k.val := by revert k; decide
theorem loadS_val (k : Fin 4) : (loadS k).val = 2 + k.val := by revert k; decide
theorem piS_val : (piS).val = 1 := by decide

/-- What a copy of a chunk into the landing buffer adds to its semaphores. -/
abbrev N : ℕ := (chunk rM 0).view.dmaCredit
theorem N_pos : 0 < N := View.dmaCredit_pos _ (by decide)
theorem credit_recv (k : Fin 4) : (chunk rM k).view.dmaCredit = N := rfl
theorem credit_send (k : Fin 4) : (chunk sM k).view.dmaCredit = N := by decide +revert

/-! ## Contents -/

/-- One value quantised to eight bits. -/
def quantE (x : F .f32) : Elt F .i8 :=
  (k0_pay2 (Scalar.ofBits .f32 0x42FE0000#32) (k0_pay1 (F := F) fun _ => x)) (fun a => ⟨0, by revert a; decide⟩)
/-- One eight-bit value scaled back. -/
def dequantE (q : Elt F .i8) : F .bf16 :=
  (k0_pay10 (F := F) fun _ => q) (fun a => ⟨0, by revert a; decide⟩)

/-- A block, as its contents in HBM and in VMEM. -/
abbrev InBlock (F : FTy → Type) : Type := (main_arg0 : Ref sig .tc).ty.Contents (Elt F)
def xOf (x : InBlock F) : (cc0_scratch0 : Ref sig .tc).ty.Contents (Elt F) := x
/-- The block quantised, -/
def qSend (x : InBlock F) : (cc0_scratch1 : Ref sig .tc).ty.Contents (Elt F) := fun i => quantE (x i)
def qRecv (x : InBlock F) : (cc0_scratch2 : Ref sig .tc).ty.Contents (Elt F) := fun i => quantE (x i)
/-- and the block scaled back. -/
def outOf (x : InBlock F) : (cc0_stg0_0 : Ref sig .tc).ty.Contents (Elt F) := fun i => dequantE (quantE (x i))

/-- Chunk `k` of a buffer of device `c`, held at contents `f`. -/
abbrev piece {sp : Space} {e : EltTy} (b : Memref sig .tc sp S1x512x512 e) (k : Fin 4) (c : Dev nD)
    (f : Buf (Elt F) ((chunk b k).view.loc (c : Thread nD τ))) : sProp 𝕄 :=
  (chunk b k).view.loc (c : Thread nD τ) ↦[(chunk b k).view.set]{fullShare} f

theorem chunk_set_disjoint (k k' : Fin 4) (h : k ≠ k') : Disjoint (rows k).set (rows k').set := by
  rw [Finset.disjoint_left]
  intro i h1 h2
  have e1 := Rect.mem_set_unit.mp h1 1
  have e2 := Rect.mem_set_unit.mp h2 1
  have hk : k.val ≠ k'.val := fun h' => h (Fin.ext h')
  simp only [Matrix.cons_val_one, Matrix.cons_val_zero] at e1 e2
  have h128 : S1x128x512.size 1 = 128 := rfl
  omega

theorem chunk_set_cover : Finset.univ.biUnion (fun k : Fin 4 => (rows k).set) = Finset.univ := by
  ext i
  simp only [Finset.mem_biUnion, Finset.mem_univ, true_and, iff_true]
  have h1 : (i 1 : ℕ) < 512 := (i 1).isLt
  have h0 : (i 0 : ℕ) < 1 := (i 0).isLt
  have h2 : (i 2 : ℕ) < 512 := (i 2).isLt
  refine ⟨⟨(i 1 : ℕ) / 128, by omega⟩, Rect.mem_set_unit.mpr fun a => ?_⟩
  fin_cases a
  · show 0 ≤ (i 0 : ℕ) ∧ (i 0 : ℕ) < 0 + 1; omega
  · show 128 * ((i 1 : ℕ) / 128) ≤ (i 1 : ℕ) ∧ (i 1 : ℕ) < 128 * ((i 1 : ℕ) / 128) + 128; omega
  · show 0 ≤ (i 2 : ℕ) ∧ (i 2 : ℕ) < 0 + 512; omega

/-! ## The schedule -/

variable (s : Bool) (m : (ℓ : Loc nD τ sig) → Buf (Elt F) ℓ)

/-- Device `c`'s block of `x`. -/
def xin (c : Dev nD) : InBlock F := m ((c : Thread nD τ).loc main_arg0)

/-- What raise `d` of `c`'s barrier semaphore brings. -/
def barPay (c : Dev nD) (d : Bool) : sProp 𝕄 :=
  if d = (s ^^ place c) then iprop(∃ f, ((dst s c : Dev nD) : Thread nD τ).loc cc0_scratch2 ↦{fullShare} f) else iprop(emp)
def sendPay (k : Fin 4) (c : Dev nD) : sProp 𝕄 := piece sM k c (qSend (xin m c))
def recvPay (k : Fin 4) (c : Dev nD) : sProp 𝕄 := piece rM k c (qRecv (xin m (dst s c)))

instance barPay_storable (c : Dev nD) (d : Bool) : BI.Storable (upEmb : UEmb _ 𝕄) (barPay (F := F) s c d) := by
  unfold barPay; split <;> infer_instance
instance sendPay_storable (k : Fin 4) (c : Dev nD) : BI.Storable (upEmb : UEmb _ 𝕄) (sendPay m k c) := by
  unfold sendPay; infer_instance
instance recvPay_storable (k : Fin 4) (c : Dev nD) : BI.Storable (upEmb : UEmb _ 𝕄) (recvPay s m k c) := by
  unfold recvPay; infer_instance

/-- Which of the remote copies' semaphores a semaphore is: `false` for a send semaphore, `true` for a receive one. -/
def copyOf : SemLoc sig → Option (Bool × Fin 4)
  | .dma q => if h : 6 ≤ q.val ∧ q.val < 10 then some (false, ⟨q.val - 6, by omega⟩)
      else if h' : 10 ≤ q.val ∧ q.val < 14 then some (true, ⟨q.val - 10, by omega⟩) else none
  | .reg _ => none

theorem copyOf_send (k : Fin 4) : copyOf (.dma (sendS k)) = some (false, k) := by revert k; decide
theorem copyOf_recv (k : Fin 4) : copyOf (.dma (recvS k)) = some (true, k) := by revert k; decide
theorem copyOf_load (k : Fin 4) : copyOf (.dma (loadS k)) = none := by revert k; decide
theorem copyOf_pi : copyOf (.dma piS) = none := by decide

/-- The schedule: every semaphore above has one round. A barrier semaphore's round has two raises of one unit, a send or
    receive semaphore's the one raise of a chunk's bytes. -/
def talk : Rounds.Schedule (GSem nD τ sig) Bool 𝕄 where
  duties g r := if r = 0 ∧ g.1.2 = .tc ∧ g.2 = .reg barS then Finset.univ
    else if r = 0 ∧ g.1.2 = .tc ∧ (copyOf g.2).isSome then {false} else ∅
  unitless _ := False
  amount g _ _ := if g.2 = .reg barS then 1 else N
  payload g _ d := if g.2 = .reg barS then barPay s g.1.1 d else
    match copyOf g.2 with
    | some (false, k) => sendPay m k g.1.1
    | some (true, k) => recvPay s m k g.1.1
    | none => iprop(emp)
  amount_pos g _ _ _ := by
    by_cases h : g.2 = .reg barS
    · rw [if_pos h]; exact Nat.one_pos
    · rw [if_neg h]; exact N_pos

instance talk_payload_storable (g : GSem nD τ sig) (r : ℕ) (d : Bool) :
    BI.Storable (upEmb : UEmb _ 𝕄) ((talk s m).payload g r d) := by
  show BI.Storable upEmb (if g.2 = .reg barS then barPay s g.1.1 d else
    match copyOf g.2 with
    | some (false, k) => sendPay m k g.1.1
    | some (true, k) => recvPay s m k g.1.1
    | none => iprop(emp))
  split
  · infer_instance
  · split <;> infer_instance

section Sched
variable (c : Dev nD) (k : Fin 4)

theorem send_ne_bar : (SemLoc.dma (sendS k) : SemLoc sig) ≠ .reg barS := fun h => by cases h
theorem recv_ne_bar : (SemLoc.dma (recvS k) : SemLoc sig) ≠ .reg barS := fun h => by cases h

theorem duties_bar : (talk s m).duties (barCell c) 0 = Finset.univ := by dsimp only [talk]; exact if_pos ⟨rfl, rfl, rfl⟩
theorem duties_send : (talk s m).duties (sendCell k c) 0 = {false} := by
  dsimp only [talk]
  rw [if_neg (fun h => send_ne_bar k h.2.2)]
  exact if_pos ⟨rfl, rfl, by rw [copyOf_send]; rfl⟩
theorem duties_recv : (talk s m).duties (recvCell k c) 0 = {false} := by
  dsimp only [talk]
  rw [if_neg (fun h => recv_ne_bar k h.2.2)]
  exact if_pos ⟨rfl, rfl, by rw [copyOf_recv]; rfl⟩
theorem duties_later (g : GSem nD τ sig) : ∀ r, 1 ≤ r → (talk s m).duties g r = ∅ :=
  fun r hr => by dsimp only [talk]; rw [if_neg fun h => by omega, if_neg fun h => by omega]

theorem amount_bar (d : Bool) : (talk s m).amount (barCell c) 0 d = 1 := by dsimp only [talk]; exact if_pos rfl
theorem amount_send (d : Bool) : (talk s m).amount (sendCell k c) 0 d = N := by dsimp only [talk]; exact if_neg (send_ne_bar k)
theorem amount_recv (d : Bool) : (talk s m).amount (recvCell k c) 0 d = N := by dsimp only [talk]; exact if_neg (recv_ne_bar k)

theorem expect_bar : (talk s m).expect (barCell c) 0 = 2 := by
  unfold Schedule.expect Schedule.amountOf
  rw [duties_bar, Finset.sum_congr rfl fun d _ => amount_bar s m c d, Finset.sum_const, Finset.card_univ, Fintype.card_bool, smul_eq_mul]
theorem expect_send : (talk s m).expect (sendCell k c) 0 = N := by
  unfold Schedule.expect Schedule.amountOf; rw [duties_send, Finset.sum_singleton, amount_send]
theorem expect_recv : (talk s m).expect (recvCell k c) 0 = N := by
  unfold Schedule.expect Schedule.amountOf; rw [duties_recv, Finset.sum_singleton, amount_recv]

theorem payload_bar (d : Bool) : (talk s m).payload (barCell c) 0 d = barPay s c d := by dsimp only [talk]; rw [if_pos rfl]
theorem payload_send (d : Bool) : (talk s m).payload (sendCell k c) 0 d = sendPay m k c := by
  dsimp only [talk]; rw [if_neg (send_ne_bar k), copyOf_send]
theorem payload_recv (d : Bool) : (talk s m).payload (recvCell k c) 0 d = recvPay s m k c := by
  dsimp only [talk]; rw [if_neg (recv_ne_bar k), copyOf_recv]

/-- What the wait on the barrier brings: the landing buffer of the device that `c` copies to. -/
theorem rest_bar : bigSep ((talk s m).duties (barCell c) 0 \ ∅) (fun d => (talk s m).payload (barCell c) 0 d)
    ⊢ iprop(∃ f, ((dst s c : Dev nD) : Thread nD τ).loc cc0_scratch2 ↦{fullShare} f) := by
  rw [Finset.sdiff_empty, duties_bar]
  refine (bigSep_elim (Finset.mem_univ (s ^^ place c))).trans ?_
  rw [payload_bar]; unfold barPay; rw [if_pos rfl]; exact BI.Entails.refl _
theorem rest_send : bigSep ((talk s m).duties (sendCell k c) 0 \ ∅) (fun d => (talk s m).payload (sendCell k c) 0 d) = sendPay m k c := by
  rw [Finset.sdiff_empty, duties_send, bigSep_singleton, payload_send]
theorem rest_recv : bigSep ((talk s m).duties (recvCell k c) 0 \ ∅) (fun d => (talk s m).payload (recvCell k c) 0 d) = recvPay s m k c := by
  rw [Finset.sdiff_empty, duties_recv, bigSep_singleton, payload_recv]

/-- What `c` hands over with its two raises: its landing buffer, to the device that copies to it. -/
theorem hand_over :
    iprop(∃ f, (c : Thread nD τ).loc cc0_scratch2 ↦{fullShare} f)
      ⊢ iprop((talk s m).payload (barCell (peer false c)) 0 (place c) ∗ (talk s m).payload (barCell (peer true c)) 0 (place c)) := by
  rw [payload_bar, payload_bar]
  unfold barPay
  have hd : ∀ b, (s ^^ place c) = b → dst s (peer b c) = c := fun b hb => by rw [← hb, ← dst_eq_peer, dst_dst]
  rcases hb : (s ^^ place c) with _ | _
  · rw [if_pos ((xor_place s false c).mpr hb.symm), if_neg (fun h => by have := (xor_place s true c).mp h; rw [hb] at this; cases this), hd _ hb]
    iintro H; isplitl [H]; · iexact H
    iempintro
  · rw [if_neg (fun h => by have := (xor_place s false c).mp h; rw [hb] at this; cases this), if_pos ((xor_place s true c).mpr hb.symm), hd _ hb]
    iintro H; isplitr; · iempintro
    iexact H

end Sched

/-! ## What each device owes at launch; the levels -/

/-- What `c` owes its peer's receive semaphores when `n` chunks are still to be copied: the last `n` chunks' bytes. -/
def owesChunks (c : Dev nD) : ℕ → CellTallies nD τ sig Unit
  | 0 => 0
  | n + 1 => owesChunks c n + tallyAt (recvCell (Fin.ofNat 4 (3 - n)) (dst s c)) () N
/-- What it owes after its first raise, and at launch. -/
def O₁ (c : Dev nD) : CellTallies nD τ sig Unit := owesChunks s c 4 + tallyAt (barCell (peer true c)) () 1
def O₀ (c : Dev nD) : CellTallies nD τ sig Unit := O₁ s c + tallyAt (barCell (peer false c)) () 1

def L (g : GSem nD τ sig) : Finset Unit := if g.1.2 = .tc then {()} else ∅
/-- The barrier at 1, the receive semaphores at 2, the others at 0. -/
def lv (g : GSem nD τ sig) (_ : Unit) : ℕ := if g.2 = .reg barS then 1 else match copyOf g.2 with | some (true, _) => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (k : Fin 4) (c : Dev nD) (u : Unit) : lv (recvCell k c) u = 2 := by
  unfold lv; rw [if_neg (recv_ne_bar k), copyOf_recv]
/-- A semaphore of local copies. -/
def IsLocal (q : DmaSem sig) : Prop := ∀ k, copyOf (.dma q) ≠ some (true, k)
theorem lv_local (q : DmaSem sig) (h : IsLocal q) (c : Dev nD) (u : Unit) : lv ((c : Thread nD τ), .dma q) u = 0 := by
  unfold lv; rw [if_neg (fun h => by cases h)]
  split
  · rename_i k hk; exact absurd hk (h k)
  · rfl

theorem owesChunks_pos {c : Dev nD} {g : GSem nD τ sig} {u : Unit} (n : ℕ) (h : 0 < owesChunks s c n g u) : ∃ k, g = recvCell k (dst s c) := by
  induction n with
  | zero => exact absurd h (Nat.lt_irrefl 0)
  | succ n ih =>
    unfold owesChunks at h
    rw [Pi.add_apply, Finsupp.add_apply, tallyAt_apply] at h
    by_cases hg : g = recvCell (Fin.ofNat 4 (3 - n)) (dst s c) ∧ u = ()
    · exact ⟨_, hg.1⟩
    · rw [if_neg hg, Nat.add_zero] at h; exact ih h

theorem O₀_pos {c : Dev nD} {g : GSem nD τ sig} {u : Unit} (h : 0 < O₀ s c g u) :
    (∃ k, g = recvCell k (dst s c)) ∨ ∃ d, g = barCell d := by
  unfold O₀ O₁ at h
  rw [Pi.add_apply, Finsupp.add_apply, Pi.add_apply, Finsupp.add_apply, tallyAt_apply, tallyAt_apply] at h
  by_cases h1 : g = barCell (peer true c) ∧ u = ()
  · exact .inr ⟨_, h1.1⟩
  by_cases h2 : g = barCell (peer false c) ∧ u = ()
  · exact .inr ⟨_, h2.1⟩
  rw [if_neg h1, if_neg h2] at h
  exact .inl (owesChunks_pos s 4 h)

/-- A device may wait on a local copy's semaphore at launch, and while it owes only chunks. -/
theorem mayWait_local₀ (c : Dev nD) (q : DmaSem sig) (hq : IsLocal q) :
    (levAts L lv : sProp 𝕄) ⊢ MayWait (c : Thread nD τ) (.dma q) () (O₀ s c) :=
  MayOwe.of_cut (L := L) (lev := lv) 0 (fun p hp => by rw [Finset.mem_singleton.mp hp, L_tc]; exact Finset.mem_singleton_self _)
    (fun g u hg => by rcases O₀_pos s hg with ⟨k, rfl⟩ | ⟨d, rfl⟩ <;> exact Finset.mem_singleton_self _)
    (fun p hp => by rw [Finset.mem_singleton.mp hp, lv_local q hq])
    (fun g u hg => by
      rcases O₀_pos s hg with ⟨k, rfl⟩ | ⟨d, rfl⟩
      · rw [lv_recv]; decide
      · rw [lv_bar]; decide)
theorem mayWait_local (c : Dev nD) (q : DmaSem sig) (hq : IsLocal q) (n : ℕ) :
    (levAts L lv : sProp 𝕄) ⊢ MayWait (c : Thread nD τ) (.dma q) () (owesChunks s c n) :=
  MayOwe.of_cut (L := L) (lev := lv) 0 (fun p hp => by rw [Finset.mem_singleton.mp hp, L_tc]; exact Finset.mem_singleton_self _)
    (fun g u hg => by obtain ⟨k, rfl⟩ := owesChunks_pos s n hg; exact Finset.mem_singleton_self _)
    (fun p hp => by rw [Finset.mem_singleton.mp hp, lv_local q hq])
    (fun g u hg => by obtain ⟨k, rfl⟩ := owesChunks_pos s n hg; rw [lv_recv]; decide)
/-- It may wait on its barrier while it owes only chunks. -/
theorem mayWait_bar (c : Dev nD) (n : ℕ) :
    (levAts L lv : sProp 𝕄) ⊢ MayWait (c : Thread nD τ) (.reg barS) () (owesChunks s c n) :=
  MayOwe.of_cut (L := L) (lev := lv) 1 (fun p hp => by rw [Finset.mem_singleton.mp hp, L_tc]; exact Finset.mem_singleton_self _)
    (fun g u hg => by obtain ⟨k, rfl⟩ := owesChunks_pos s n hg; exact Finset.mem_singleton_self _)
    (fun p hp => by rw [Finset.mem_singleton.mp hp]; exact (lv_bar c ()).le)
    (fun g u hg => by obtain ⟨k, rfl⟩ := owesChunks_pos s n hg; rw [lv_recv]; decide)

theorem isLocal_load (k : Fin 4) : IsLocal (loadS k) := fun k' => by rw [copyOf_load]; exact fun h => by cases h
theorem isLocal_pi : IsLocal piS := fun k' => by rw [copyOf_pi]; exact fun h => by cases h

end Cert.KernelIdealTalk

end
-- ==== Proof.KernelIdeal.Steps.lean ====
/-
# The kernel's statements, one lemma each, at chunk `k` of device `c`

Each lemma states what one statement of the kernel takes and gives in terms of whole-block contents: a chunk of the VMEM
copy holds the block `x`, a chunk of the buffer of quantised values holds `x` quantised value by value, a chunk of the
landing buffer holds the peer's block quantised, and a chunk of the result holds the peer's block quantised and scaled
back.
-/
module

public import proofs.«01_k».proof.Proof.KernelIdeal.Protocol

@[expose] public section

noncomputable section

namespace Cert.KernelIdealTalk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## Contents -/

/-- A copy of chunk `k` of the block lands as chunk `k` of the block. -/
theorem write_x (k : Fin 4) (f : (cc0_scratch0 : Ref sig .tc).ty.Contents (Elt F)) (x : InBlock F) (i : S1x512x512.Idx)
    (hi : i ∈ (chunk xM k).view.set) :
    (chunk xM k).view.write (Elt F) f ((chunk aM k).view.read (Elt F) x) Finset.univ i = xOf x i := by
  obtain ⟨j, -, rfl⟩ := Finset.mem_map.mp hi
  rw [View.write_emb_of_mem _ _ (Finset.mem_univ j)]
  rfl

/-- A copy of chunk `k` of the quantised block lands so. -/
theorem write_recv (k : Fin 4) (f : (cc0_scratch2 : Ref sig .tc).ty.Contents (Elt F)) (x : InBlock F) (i : S1x512x512.Idx)
    (hi : i ∈ (chunk rM k).view.set) :
    (chunk rM k).view.write (Elt F) f ((chunk sM k).view.read (Elt F) (qSend x)) Finset.univ i = qRecv x i := by
  obtain ⟨j, -, rfl⟩ := Finset.mem_map.mp hi
  rw [View.write_emb_of_mem _ _ (Finset.mem_univ j)]
  rfl

/-- Chunk `k` of the block, as the kernel loads it. -/
abbrev xRead (k : Fin 4) (x : InBlock F) : Vec F S1x128x512 .f32 := xM.view.readAt (Elt F) (rows k).toLoadRect (xOf x)
/-- Chunk `k` of the block quantised, as it loads it. -/
abbrev qRead (k : Fin 4) (x : InBlock F) : Vec F S1x128x512 .i8 := rM.view.readAt (Elt F) (rows k).toLoadRect (qRecv x)

/-- What the kernel stores as chunk `k` of the quantised block is that chunk, -/
theorem write_send (k : Fin 4) (f : (cc0_scratch1 : Ref sig .tc).ty.Contents (Elt F)) (x : InBlock F) (w : IVec S1x128x512 8)
    (hw : w = k0_pay2 (Scalar.ofBits .f32 0x42FE0000#32) (k0_pay1 (xRead k x))) (i : S1x512x512.Idx) (hi : i ∈ (chunk sM k).view.set) :
    (sM.access (rows k)).write (Elt F) f w Finset.univ i = qSend x i := by
  subst hw
  obtain ⟨j, -, rfl⟩ := Finset.mem_map.mp hi
  refine (View.write_emb_of_mem (v := sM.access (rows k)) f _ (Finset.mem_univ j)).trans ?_
  unfold qSend quantE k0_pay2
  simp only [shapeCast_self]
  rfl

/-- and what it stores as chunk `k` of the result is that chunk of the block quantised and scaled back. -/
theorem write_out (k : Fin 4) (f : (cc0_stg0_0 : Ref sig .tc).ty.Contents (Elt F)) (x : InBlock F) (w : Vec F S1x128x512 .bf16)
    (hw : w = k0_pay10 (qRead k x)) (i : S1x512x512.Idx) (hi : i ∈ (chunk oM k).view.set) :
    (oM.access (rows k)).write (Elt F) f w Finset.univ i = outOf x i := by
  subst hw
  obtain ⟨j, -, rfl⟩ := Finset.mem_map.mp hi
  refine (View.write_emb_of_mem (v := oM.access (rows k)) f _ (Finset.mem_univ j)).trans ?_
  rfl

/-! ## Local copies -/

/-- The bytes of a chunk of the block, and of the permutation. -/
abbrev NX : ℕ := (chunk xM 0).view.dmaCredit
abbrev NP : ℕ := pM.view.dmaCredit
theorem credit_x (k : Fin 4) : (chunk xM k).view.dmaCredit = NX := by revert k; decide

/-- Issuing the copy of chunk `k` of the block to VMEM; -/
theorem wp_load_issue {α : Type} {Q : α → sProp 𝕄} (c : Dev nD) (k : Fin 4) (x : InBlock F) (fd : Buf (Elt F) ((chunk xM k).view.loc (c : Thread nD τ)))
    {hsrc : (chunk aM k).view.WordExact} {hdst : (chunk xM k).view.WordExact}
    {hsem : DmaTarget.Typed (nD := nD) (τ := τ) (p := Proc.tc) .hbm (.dma (loadS k)) (.here (chunk xM k))}
    {K : PUnit → Prog (TpuEff nD τ sig (Elt F) Λ₀ .tc) α} :
    iprop(piece aM k c x ∗ piece xM k c fd ∗ semVal ((c : Thread nD τ), .dma (loadS k)) 0)
      ⊢ iprop((Transfers.Flight EC (c : Thread nD τ) (.dma (loadS k)) () NX iprop(piece xM k c (xOf x) ∗ piece aM k c x)
            -∗ wp frame (wpE (defs₀ (F := F)) 𝒱₀ (c : Thread nD τ) none) Set.univ (K ⟨⟩) Q)
          -∗ wp frame (wpE (defs₀ (F := F)) 𝒱₀ (c : Thread nD τ) none) Set.univ
            (.op (.enqueueDma (chunk aM k) (.here (chunk xM k)) (.dma (loadS k)) hsrc hdst hsem) K) Q) := by
  have h := Transfers.wp_dmaLocal (defs := defs₀ (F := F)) (Q := Q) (k := K) EC 𝒱₀ (c : Thread nD τ) none (src := chunk aM k) (dst := chunk xM k)
    (sm := .dma (loadS k)) (via := ReadAs.same) (hsrc := hsrc) (hdst := hdst) (hsem := hsem) (q := fullShare) (fs := x) (fd := fd) () NX
    (Sd := (chunk xM k).view.set) (credit_x k) (View.dmaCredit_pos _ (by decide)) subset_rfl
  rwa [show ((chunk xM k).view.loc (c : Thread nD τ) ↦[(chunk xM k).view.set]{fullShare}
      ((chunk xM k).view.write (Elt F) fd ((ReadAs.same).apply ((chunk aM k).view.read (Elt F) x)) Finset.univ) : sProp 𝕄) = piece xM k c (xOf x) from
    pointsTo_congr (write_x k fd x)] at h

/-- waiting for it, while owing only chunks. -/
theorem wp_load_wait {α : Type} {Q : α → sProp 𝕄} (s : Bool) (c : Dev nD) (k : Fin 4) (n : ℕ) (D : sProp 𝕄) (W : Waits sig Unit)
    {sp : Space} {s₁ : Shape} {e₁ : EltTy}
    {src : Memref sig Kind.tc sp s₁ e₁} {hsrc : src.view.WordExact} {hdst : (chunk xM k).view.WordExact}
    {K : PUnit → Prog (TpuEff nD τ sig (Elt F) Λ₀ .tc) α} :
    iprop(levAts L lv ∗ Transfers.Flight EC (c : Thread nD τ) (.dma (loadS k)) () NX D ∗ owes (c : Thread nD τ) (owesChunks s c n) W)
      ⊢ iprop(((D ∗ semVal ((c : Thread nD τ), .dma (loadS k)) 0 ∗ owes (c : Thread nD τ) (owesChunks s c n) (insert (SemLoc.dma (loadS k), ()) W))
            -∗ wp frame (wpE (defs₀ (F := F)) 𝒱₀ (c : Thread nD τ) none) Set.univ (K ⟨⟩) Q)
          -∗ wp frame (wpE (defs₀ (F := F)) 𝒱₀ (c : Thread nD τ) none) Set.univ
            (.op (.waitDma2 (loadS k) src (chunk xM k) hsrc hdst) K) Q) := by
  iintro ⟨Hlev, Hf, Ho⟩
  iapply (Transfers.wp_waitLocalO (defs := defs₀ (F := F)) (Q := Q) (k := K) EC 𝒱₀ (c : Thread nD τ) none (srcw := src) (dstw := chunk xM k) ()
    (credit_x k) (D := D) (O := owesChunks s c n) (W := W)) $$ [Hlev Hf Ho]
  isplitl [Hf]; · iexact Hf
  isplitl [Ho]; · iexact Ho
  iapply (mayWait_local s c (loadS k) (isLocal_load k) n); iexact Hlev

/-- The permutation's copy to SMEM: issued, -/
theorem wp_pi_issue {α : Type} {Q : α → sProp 𝕄} (c : Dev nD) (fs : Buf (Elt F) (piM.view.loc (c : Thread nD τ))) (fd : Buf (Elt F) (pM.view.loc (c : Thread nD τ)))
    {hsrc : piM.view.WordExact} {hdst : pM.view.WordExact}
    {hsem : DmaTarget.Typed (nD := nD) (τ := τ) (p := Proc.tc) .hbm (.dma piS) (.here pM)}
    {K : PUnit → Prog (TpuEff nD τ sig (Elt F) Λ₀ .tc) α} :
    iprop((piM.view.loc (c : Thread nD τ) ↦{fullShare} fs) ∗ (pM.view.loc (c : Thread nD τ) ↦{fullShare} fd) ∗ semVal ((c : Thread nD τ), .dma piS) 0)
      ⊢ iprop((Transfers.Flight EC (c : Thread nD τ) (.dma piS) () NP
              iprop((pM.view.loc (c : Thread nD τ) ↦{fullShare} (fs : pM.view.ty.Contents (Elt F))) ∗ (piM.view.loc (c : Thread nD τ) ↦{fullShare} fs))
            -∗ wp frame (wpE (defs₀ (F := F)) 𝒱₀ (c : Thread nD τ) none) Set.univ (K ⟨⟩) Q)
          -∗ wp frame (wpE (defs₀ (F := F)) 𝒱₀ (c : Thread nD τ) none) Set.univ
            (.op (.enqueueDma piM (.here pM) (.dma piS) hsrc hdst hsem) K) Q) := by
  have h := Transfers.wp_dmaLocal (defs := defs₀ (F := F)) (Q := Q) (k := K) EC 𝒱₀ (c : Thread nD τ) none (src := piM) (dst := pM)
    (sm := .dma piS) (via := ReadAs.same) (hsrc := hsrc) (hdst := hdst) (hsem := hsem) (q := fullShare) (fs := fs) (fd := fd) () NP
    (Sd := Finset.univ) rfl (View.dmaCredit_pos _ (by decide)) (Finset.subset_univ _)
  rwa [show pM.view.write (Elt F) fd ((ReadAs.same).apply (piM.view.read (Elt F) fs)) Finset.univ = (fs : pM.view.ty.Contents (Elt F)) from
      View.write_whole_univ _ _ _, show piM.view.set = Finset.univ from View.set_whole _] at h

/-- and waited for. -/
theorem wp_pi_wait {α : Type} {Q : α → sProp 𝕄} (s : Bool) (c : Dev nD) (n : ℕ) (D : sProp 𝕄) (W : Waits sig Unit)
    {sp : Space} {s₁ : Shape} {e₁ : EltTy}
    {src : Memref sig Kind.tc sp s₁ e₁} {hsrc : src.view.WordExact} {hdst : pM.view.WordExact}
    {K : PUnit → Prog (TpuEff nD τ sig (Elt F) Λ₀ .tc) α} :
    iprop(levAts L lv ∗ Transfers.Flight EC (c : Thread nD τ) (.dma piS) () NP D ∗ owes (c : Thread nD τ) (owesChunks s c n) W)
      ⊢ iprop(((D ∗ semVal ((c : Thread nD τ), .dma piS) 0 ∗ owes (c : Thread nD τ) (owesChunks s c n) (insert (SemLoc.dma piS, ()) W))
            -∗ wp frame (wpE (defs₀ (F := F)) 𝒱₀ (c : Thread nD τ) none) Set.univ (K ⟨⟩) Q)
          -∗ wp frame (wpE (defs₀ (F := F)) 𝒱₀ (c : Thread nD τ) none) Set.univ
            (.op (.waitDma2 piS src pM hsrc hdst) K) Q) := by
  iintro ⟨Hlev, Hf, Ho⟩
  iapply (Transfers.wp_waitLocalO (defs := defs₀ (F := F)) (Q := Q) (k := K) EC 𝒱₀ (c : Thread nD τ) none (srcw := src) (dstw := pM) ()
    rfl (D := D) (O := owesChunks s c n) (W := W)) $$ [Hlev Hf Ho]
  isplitl [Hf]; · iexact Hf
  isplitl [Ho]; · iexact Ho
  iapply (mayWait_local s c piS isLocal_pi n); iexact Hlev

/-! ## Loads and stores -/

/-- A load of chunk `k` of a buffer, -/
theorem wp_load_chunk {α : Type} {Q : α → sProp 𝕄} (c : Dev nD) {cs : CoreSpace} {e : EltTy} (b : Memref sig Kind.tc cs S1x512x512 e) (k : Fin 4)
    (f : Buf (Elt F) ((chunk b k).view.loc (c : Thread nD τ))) {hl : b.view.LoadsAt (rows k).toLoadRect}
    {K : ((rows k).toLoadRect.shape.Idx → Elt F e) → Prog (TpuEff nD τ sig (Elt F) Λ₀ .tc) α} :
    piece b k c f
      ⊢ iprop((piece b k c f -∗ wp frame (wpE (defs₀ (F := F)) 𝒱₀ (c : Thread nD τ) none) Set.univ (K (b.view.readAt (Elt F) (rows k).toLoadRect f)) Q)
          -∗ wp frame (wpE (defs₀ (F := F)) 𝒱₀ (c : Thread nD τ) none) Set.univ (.op (.load b (rows k).toLoadRect hl) K) Q) :=
  wp_load_rect 𝒱₀ (c : Thread nD τ) none Set.univ (m := b) (r := rows k) (Q := Q) (q := fullShare) (f := f) subset_rfl

/-- the store of chunk `k` of the quantised block, -/
theorem wp_store_send {α : Type} {Q : α → sProp 𝕄} (c : Dev nD) (k : Fin 4) (x : InBlock F) (f : Buf (Elt F) ((chunk sM k).view.loc (c : Thread nD τ)))
    {w : IVec S1x128x512 8} (hw : w = k0_pay2 (Scalar.ofBits .f32 0x42FE0000#32) (k0_pay1 (xRead k x)))
    {hx : (sM.access (rows k)).Stores Finset.univ} {hm : (Finset.univ : Finset (rows k).shape.Idx) = Finset.univ ∨ ∀ a, (rows k).stride a = 1}
    {K : PUnit → Prog (TpuEff nD τ sig (Elt F) Λ₀ .tc) α} :
    piece sM k c f
      ⊢ iprop((piece sM k c (qSend x) -∗ wp frame (wpE (defs₀ (F := F)) 𝒱₀ (c : Thread nD τ) none) Set.univ (K ⟨⟩) Q)
          -∗ wp frame (wpE (defs₀ (F := F)) 𝒱₀ (c : Thread nD τ) none) Set.univ (.op (.store sM (rows k) w Finset.univ hx hm) K) Q) := by
  have h := wp_store (defs := defs₀ (F := F)) (Q := Q) (k := K) (hx := hx) (hm := hm) (Γ := ∅) 𝒱₀ (c : Thread nD τ) none Set.univ (m := sM) (r := rows k) (w := w)
    (Mk := Finset.univ) (f := f) (S := (chunk sM k).view.set) subset_rfl
  rwa [show (((sM.access (rows k)).loc (c : Thread nD τ)) ↦[(chunk sM k).view.set]{fullShare}
      ((sM.access (rows k)).write (Elt F) f w Finset.univ) : sProp 𝕄) = piece sM k c (qSend x) from pointsTo_congr (write_send k f x w hw)] at h

/-- and that of chunk `k` of the result. -/
theorem wp_store_out {α : Type} {Q : α → sProp 𝕄} (c : Dev nD) (k : Fin 4) (x : InBlock F) (f : Buf (Elt F) ((chunk oM k).view.loc (c : Thread nD τ)))
    {w : Vec F S1x128x512 .bf16} (hw : w = k0_pay10 (qRead k x))
    {hx : (oM.access (rows k)).Stores Finset.univ} {hm : (Finset.univ : Finset (rows k).shape.Idx) = Finset.univ ∨ ∀ a, (rows k).stride a = 1}
    {K : PUnit → Prog (TpuEff nD τ sig (Elt F) Λ₀ .tc) α} :
    piece oM k c f
      ⊢ iprop((piece oM k c (outOf x) -∗ wp frame (wpE (defs₀ (F := F)) 𝒱₀ (c : Thread nD τ) none) Set.univ (K ⟨⟩) Q)
          -∗ wp frame (wpE (defs₀ (F := F)) 𝒱₀ (c : Thread nD τ) none) Set.univ (.op (.store oM (rows k) w Finset.univ hx hm) K) Q) := by
  have h := wp_store (defs := defs₀ (F := F)) (Q := Q) (k := K) (hx := hx) (hm := hm) (Γ := ∅) 𝒱₀ (c : Thread nD τ) none Set.univ (m := oM) (r := rows k) (w := w)
    (Mk := Finset.univ) (f := f) (S := (chunk oM k).view.set) subset_rfl
  rwa [show (((oM.access (rows k)).loc (c : Thread nD τ)) ↦[(chunk oM k).view.set]{fullShare}
      ((oM.access (rows k)).write (Elt F) f w Finset.univ) : sProp 𝕄) = piece oM k c (outOf x) from pointsTo_congr (write_out k f x w hw)] at h

/-! ## The talk -/

variable (s : Bool) (m : (ℓ : Loc nD τ sig) → Buf (Elt F) ℓ)

/-- The copy of chunk `k` to the peer: it lends the chunk of the quantised block and gives the peer's chunk away. -/
theorem wp_send_chunk {α : Type} {Q : α → sProp 𝕄} (c : Dev nD) (k : Fin 4) (n : ℕ) (hk : Fin.ofNat 4 (3 - n) = k) (d : Dev nD) (hd : d = dst s c) (κ₁ κ₂ : ℕ)
    (fn : Buf (Elt F) ((chunk rM k).view.loc (dst s c : Thread nD τ))) (W : Waits sig Unit)
    {hsc : (chunk rM k : Memref sig (Dev.tc d : Thread nD τ).2.kind .vmem S1x128x512 .i8).view.ref.isScScratch = false}
    {hsrc : (chunk sM k).view.WordExact} {hdst : (chunk rM k).view.WordExact}
    {hsem : DmaTarget.Typed (nD := nD) (τ := τ) (p := Proc.tc) .vmem (.dma (recvS k)) (.remote (Dev.tc d : Thread nD τ) (chunk rM k) (.dma (sendS k)) hsc)}
    {K : PUnit → Prog (TpuEff nD τ sig (Elt F) Λ₀ .tc) α} :
    iprop(cellInv ER (talk s m) κ₁ (sendCell k c) ∗ cellInv ER (talk s m) κ₂ (recvCell k (dst s c))
        ∗ piece sM k c (qSend (xin m c)) ∗ piece rM k (dst s c) fn
        ∗ owes (c : Thread nD τ) (owesChunks s c (n + 1)) W
        ∗ dutyTok ER (sendCell k c) 0 false ∗ reached ER (sendCell k c) 0
        ∗ dutyTok ER (recvCell k (dst s c)) 0 false ∗ reached ER (recvCell k (dst s c)) 0)
      ⊢ iprop(((cred (tallyAt (sendCell k c) () N) ∗ owes (c : Thread nD τ) (owesChunks s c n) W)
            -∗ wp frame (wpE (defs₀ (F := F)) 𝒱₀ (c : Thread nD τ) none) Set.univ (K ⟨⟩) Q)
          -∗ wp frame (wpE (defs₀ (F := F)) 𝒱₀ (c : Thread nD τ) none) Set.univ
              (.op (.enqueueDma (chunk sM k) (.remote (Dev.tc d : Thread nD τ) (chunk rM k) (.dma (sendS k)) hsc) (.dma (recvS k)) hsrc hdst hsem) K) Q) := by
  subst hd
  refine Rounds.wp_send_pointsTo 𝒱₀ ER (talk s m) (c : Thread nD τ) none (κ₁ := κ₁) (κ₂ := κ₂)
    (c' := (dst s c : Thread nD τ)) (src := chunk sM k) (dst := chunk rM k) (hsc := hsc) (hsrc := hsrc) (hdst := hdst) (hsem := hsem) (sS := .dma (sendS k)) (sem := .dma (recvS k)) (k := K) (Q := Q)
    (r₁ := 0) (r₂ := 0) (d₁ := false) (d₂ := false) (fs := qSend (xin m c)) (fd := fn) (q := fullShare)
    (by rw [duties_send]; exact Finset.mem_singleton_self _) (by rw [duties_recv]; exact Finset.mem_singleton_self _)
    () () N (credit_recv k) (amount_send s m c k false) (amount_recv s m (dst s c) k false) (owesChunks s c n) (by rw [← hk]; rfl) (W := W)
    (by rw [payload_send]; unfold sendPay; exact BI.Entails.refl _) ?_
  rw [payload_recv]; unfold recvPay; rw [dst_dst]
  exact Entails.of_eq (pointsTo_congr (write_recv k fn (xin m c)))

/-- The wait for chunk `k` from the peer, nothing owed; -/
theorem wp_recv_wait {α : Type} {Q : α → sProp 𝕄} (c : Dev nD) (k : Fin 4) (κ : ℕ) (W : Waits sig Unit)
    {sp : Space} {s₁ : Shape} {e₁ : EltTy}
    {src : Memref sig Kind.tc sp s₁ e₁} {hsrc : src.view.WordExact} {hdst : (chunk rM k).view.WordExact}
    {K : PUnit → Prog (TpuEff nD τ sig (Elt F) Λ₀ .tc) α} :
    iprop(cellInv ER (talk s m) κ (recvCell k c) ∗ cred (tallyAt (recvCell k c) () N) ∗ owes (c : Thread nD τ) (owesChunks s c 0) W ∗ atPos ER (recvCell k c) 0 ∅ 0)
      ⊢ iprop(((owes (c : Thread nD τ) (owesChunks s c 0) (insert (SemLoc.dma (recvS k), ()) W) ∗ semVal (recvCell k c) 0 ∗ piece rM k c (qRecv (xin m (dst s c))))
            -∗ wp frame (wpE (defs₀ (F := F)) 𝒱₀ (c : Thread nD τ) none) Set.univ (K ⟨⟩) Q)
          -∗ wp frame (wpE (defs₀ (F := F)) 𝒱₀ (c : Thread nD τ) none) Set.univ
            (.op (.waitDma2 (recvS k) src (chunk rM k) hsrc hdst) K) Q) := by
  iintro ⟨#HI, Hc, Ho, Hat⟩ Hk
  iapply (Rounds.wp_wait_rest_token 𝒱₀ ER (talk s m) (c : Thread nD τ) none (κ := κ)
      (wpE_waitDma2_eq 𝒱₀ (c : Thread nD τ) none Set.univ) (Set.mem_univ _) () (O := 0) (W := W) (R := 0) (m := 0) (T := ∅)
      (by rw [Nat.zero_add, expect_recv])) $$ [Hc Ho Hat]
  · isplitr; · iexact HI
    isplitl [Hc]; · iexact Hc
    isplitl [Ho]; · iexact Ho
    isplitr; · rw [MayWait_zero]; iempintro
    iexact Hat
  iintro ⟨Ho, Hat, -, Hpay⟩
  ihave Hp := (Entails.of_eq (rest_recv s m c k)) $$ Hpay
  unfold recvPay
  imod (Rounds.cell_close ER (talk s m) (Set.mem_univ κ) (fun h => h) (R := 0 + 1) (duties_later s m (recvCell k c))) $$ [Hat] with Hz
  · isplitr; · iexact HI
    iexact Hat
  iapply Hk
  isplitl [Ho]; · iexact Ho
  isplitl [Hz]; · iexact Hz
  iexact Hp

/-- and the wait for its own copy of chunk `k` to have read the chunk. -/
theorem wp_send_wait {α : Type} {Q : α → sProp 𝕄} (c : Dev nD) (k : Fin 4) (κ : ℕ) (W : Waits sig Unit)
    {sp : Space} {s₁ : Shape} {e₁ : EltTy}
    {src : Memref sig Kind.tc sp s₁ e₁} {hsrc : src.view.WordExact} {hdst : (chunk sM k).view.WordExact}
    {K : PUnit → Prog (TpuEff nD τ sig (Elt F) Λ₀ .tc) α} :
    iprop(cellInv ER (talk s m) κ (sendCell k c) ∗ cred (tallyAt (sendCell k c) () N) ∗ owes (c : Thread nD τ) (owesChunks s c 0) W ∗ atPos ER (sendCell k c) 0 ∅ 0)
      ⊢ iprop(((owes (c : Thread nD τ) (owesChunks s c 0) (insert (SemLoc.dma (sendS k), ()) W) ∗ semVal (sendCell k c) 0 ∗ piece sM k c (qSend (xin m c)))
            -∗ wp frame (wpE (defs₀ (F := F)) 𝒱₀ (c : Thread nD τ) none) Set.univ (K ⟨⟩) Q)
          -∗ wp frame (wpE (defs₀ (F := F)) 𝒱₀ (c : Thread nD τ) none) Set.univ
            (.op (.waitDma2 (sendS k) src (chunk sM k) hsrc hdst) K) Q) := by
  iintro ⟨#HI, Hc, Ho, Hat⟩ Hk
  iapply (Rounds.wp_wait_rest_token 𝒱₀ ER (talk s m) (c : Thread nD τ) none (κ := κ) (k' := N)
      (fun K => by rw [← credit_send k]; exact wpE_waitDma2_eq 𝒱₀ (c : Thread nD τ) none Set.univ K) (Set.mem_univ _) () (O := 0) (W := W) (R := 0) (m := 0) (T := ∅)
      (by rw [Nat.zero_add, expect_send])) $$ [Hc Ho Hat]
  · isplitr; · iexact HI
    isplitl [Hc]; · iexact Hc
    isplitl [Ho]; · iexact Ho
    isplitr; · rw [MayWait_zero]; iempintro
    iexact Hat
  iintro ⟨Ho, Hat, -, Hpay⟩
  ihave Hp := (Entails.of_eq (rest_send s m c k)) $$ Hpay
  unfold sendPay
  imod (Rounds.cell_close ER (talk s m) (Set.mem_univ κ) (fun h => h) (R := 0 + 1) (duties_later s m (sendCell k c))) $$ [Hat] with Hz
  · isplitr; · iexact HI
    iexact Hat
  iapply Hk
  isplitl [Ho]; · iexact Ho
  isplitl [Hz]; · iexact Hz
  iexact Hp

end Cert.KernelIdealTalk

end
-- ==== Proof.KernelIdeal.Body.lean ====
/-
# The kernel's body on device `c`

The body is run once, at a symbolic device `c` and for both permutations (`s`), one rule per statement in program order.
It starts from the talk's ghost state, the local semaphores at zero, the VMEM buffers at any contents and the device's
two arguments; it ends with the result's staging buffer holding the peer's block quantised and scaled back, every
semaphore back at zero, and the arguments as they were.
-/
module

public import proofs.«01_k».proof.Proof.KernelIdeal.Steps

@[expose] public section

noncomputable section

namespace Cert.KernelIdealTalk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## Devices, and the permutation's words -/

theorem dev1_eq (c : Dev nD) : (⟨k0_dev1 c, k0_dev1_lt c⟩ : Dev nD) = peer false c := by revert c; decide +kernel
theorem dev2_eq (c : Dev nD) : (⟨k0_dev2 c, k0_dev2_lt c⟩ : Dev nD) = peer true c := by revert c; decide +kernel

/-- The word of the permutation that device `c` reads: the peer's place. -/
def wordOf (s : Bool) (c : Dev nD) : BitVec 32 := if (s ^^ place c) then 1#32 else 0#32

/-- The permutation of every device's memory is the one that swaps (`s`) or keeps the two places. -/
def PreOK (s : Bool) (m : (ℓ : Loc nD τ sig) → Buf (Elt F) ℓ) : Prop :=
  ∀ (c : Dev nD) (i : S2.Idx), (i 0).val = c.val / 4 →
    (m ((c : Thread nD τ).loc main_arg1) : (main_arg1 : Ref sig .tc).ty.Contents (Elt F)) i = wordOf s c

theorem chk_of {s : Bool} {c : Dev nD} {v : BitVec 32} (h : v = wordOf s c) : k0_chk1 c v := by subst h; revert s c; decide +kernel
theorem dev3_of {s : Bool} {c : Dev nD} {v : BitVec 32} (h : v = wordOf s c) (hl : k0_dev3 c v < nD) : (⟨k0_dev3 c v, hl⟩ : Dev nD) = dst s c :=
  Fin.ext (show k0_dev3 c v = (dst s c).val by subst h; clear hl; revert s c; decide +kernel)
theorem dev4_of {s : Bool} {c : Dev nD} {v : BitVec 32} (h : v = wordOf s c) (hl : k0_dev4 c v < nD) : (⟨k0_dev4 c v, hl⟩ : Dev nD) = dst s c :=
  Fin.ext (show k0_dev4 c v = (dst s c).val by subst h; clear hl; revert s c; decide +kernel)
theorem dev5_of {s : Bool} {c : Dev nD} {v : BitVec 32} (h : v = wordOf s c) (hl : k0_dev5 c v < nD) : (⟨k0_dev5 c v, hl⟩ : Dev nD) = dst s c :=
  Fin.ext (show k0_dev5 c v = (dst s c).val by subst h; clear hl; revert s c; decide +kernel)
theorem dev6_of {s : Bool} {c : Dev nD} {v : BitVec 32} (h : v = wordOf s c) (hl : k0_dev6 c v < nD) : (⟨k0_dev6 c v, hl⟩ : Dev nD) = dst s c :=
  Fin.ext (show k0_dev6 c v = (dst s c).val by subst h; clear hl; revert s c; decide +kernel)

/-- The rectangle of the word device `c` reads. -/
abbrev wordRect (c : Dev nD) : Rect S2 := Rect.unit (s := S2) (k0_off1 c) S1.size (k0_off1_inb c)

theorem word_eq {s : Bool} {m : (ℓ : Loc nD τ sig) → Buf (Elt F) ℓ} (h : PreOK s m) (c : Dev nD) (j : (wordRect c).shape.Idx) :
    pM.view.readAt (Elt F) (wordRect c).toLoadRect (m ((c : Thread nD τ).loc main_arg1)) j = wordOf s c := by
  refine h c ((wordRect c).toLoadRect.idx j) ?_
  have h1 : (((wordRect c).toLoadRect.idx j) 0).val = k0_off1 c 0 + (j 0).val := by
    show k0_off1 c 0 + 1 * (j 0).val = _
    rw [Nat.one_mul]
  have h2 : (j 0).val < 1 := (j 0).isLt
  have h3 : k0_off1 c 0 = c.val / 4 := by rw [k0_off1_eq]; rfl
  omega

/-! ## A buffer as its four chunks -/

theorem bigSep_fin4 {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ

section Pieces
variable (c : Dev nD)

theorem pieces_a (f : Buf (Elt F) ((c : Thread nD τ).loc main_arg0)) :
    ((c : Thread nD τ).loc main_arg0 ↦{fullShare} f : sProp 𝕄) = iprop(piece aM 0 c f ∗ piece aM 1 c f ∗ piece aM 2 c f ∗ piece aM 3 c f) := by
  rw [Ring.pointsTo_blocks (fun k => (rows k).set) chunk_set_disjoint chunk_set_cover f, bigSep_fin4]
  simp only [View.set_slice_whole, piece]
theorem pieces_x (f : Buf (Elt F) ((c : Thread nD τ).loc cc0_scratch0)) :
    ((c : Thread nD τ).loc cc0_scratch0 ↦{fullShare} f : sProp 𝕄) = iprop(piece xM 0 c f ∗ piece xM 1 c f ∗ piece xM 2 c f ∗ piece xM 3 c f) := by
  rw [Ring.pointsTo_blocks (fun k => (rows k).set) chunk_set_disjoint chunk_set_cover f, bigSep_fin4]
  simp only [View.set_slice_whole, piece]
theorem pieces_s (f : Buf (Elt F) ((c : Thread nD τ).loc cc0_scratch1)) :
    ((c : Thread nD τ).loc cc0_scratch1 ↦{fullShare} f : sProp 𝕄) = iprop(piece sM 0 c f ∗ piece sM 1 c f ∗ piece sM 2 c f ∗ piece sM 3 c f) := by
  rw [Ring.pointsTo_blocks (fun k => (rows k).set) chunk_set_disjoint chunk_set_cover f, bigSep_fin4]
  simp only [View.set_slice_whole, piece]
theorem pieces_r (f : Buf (Elt F) ((c : Thread nD τ).loc cc0_scratch2)) :
    ((c : Thread nD τ).loc cc0_scratch2 ↦{fullShare} f : sProp 𝕄) = iprop(piece rM 0 c f ∗ piece rM 1 c f ∗ piece rM 2 c f ∗ piece rM 3 c f) := by
  rw [Ring.pointsTo_blocks (fun k => (rows k).set) chunk_set_disjoint chunk_set_cover f, bigSep_fin4]
  simp only [View.set_slice_whole, piece]
theorem pieces_o (f : Buf (Elt F) ((c : Thread nD τ).loc cc0_stg0_0)) :
    ((c : Thread nD τ).loc cc0_stg0_0 ↦{fullShare} f : sProp 𝕄) = iprop(piece oM 0 c f ∗ piece oM 1 c f ∗ piece oM 2 c f ∗ piece oM 3 c f) := by
  rw [Ring.pointsTo_blocks (fun k => (rows k).set) chunk_set_disjoint chunk_set_cover f, bigSep_fin4]
  simp only [View.set_slice_whole, piece]
end Pieces

/-- The load of the permutation's word: the peer's place. -/
theorem wp_read_word {α : Type} {Q : α → sProp 𝕄} {s : Bool} {m : (ℓ : Loc nD τ sig) → Buf (Elt F) ℓ} (h : PreOK s m) (c : Dev nD)
    {hl : (pM.access (wordRect c)).Loads} {x : (wordRect c).shape.Idx} {C : Elt F .i32 → Prog (TpuEff nD τ sig (Elt F) Λ₀ .tc) α} :
    iprop(pM.view.loc (c : Thread nD τ) ↦{fullShare} (m ((c : Thread nD τ).loc main_arg1) : pM.view.ty.Contents (Elt F)))
      ⊢ iprop((∀ v : Elt F .i32, ⌜v = wordOf s c⌝ -∗ (pM.view.loc (c : Thread nD τ) ↦{fullShare} (m ((c : Thread nD τ).loc main_arg1) : pM.view.ty.Contents (Elt F)))
            -∗ wp frame (wpE (defs₀ (F := F)) 𝒱₀ (c : Thread nD τ) none) Set.univ (C v) Q)
          -∗ wp frame (wpE (defs₀ (F := F)) 𝒱₀ (c : Thread nD τ) none) Set.univ (smemLoadElt pM (wordRect c) hl x C) Q) := by
  unfold smemLoadElt
  iintro Hp Hk
  iapply (wp_load 𝒱₀ (c : Thread nD τ) none Set.univ (m := pM) (Finset.subset_univ _)) $$ Hp; iintro Hp
  iapply Hk $$ [] [Hp]
  · ipureintro; exact word_eq h c x
  · iexact Hp

/-! ## The ghost state a device starts from -/

/-- The talk's semaphores of a device: `none` the barrier, `some (false, k)` send semaphore `k`, `some (true, k)` receive
    semaphore `k`. -/
abbrev Key : Type := Option (Bool × Fin 4)
abbrev kcell : Dev nD × Key → GSem nD τ sig
  | (c, none) => barCell c
  | (c, some (false, k)) => sendCell k c
  | (c, some (true, k)) => recvCell k c

theorem bigSep_key {M : Type} [URA M] (Φ : Key → sProp M) : bigSep Finset.univ Φ
    = iprop(Φ none ∗ Φ (some (false, 0)) ∗ Φ (some (false, 1)) ∗ Φ (some (false, 2)) ∗ Φ (some (false, 3))
        ∗ Φ (some (true, 0)) ∗ Φ (some (true, 1)) ∗ Φ (some (true, 2)) ∗ Φ (some (true, 3))) :=
  bigSep_univ_eq_bigSepL [none, some (false, 0), some (false, 1), some (false, 2), some (false, 3), some (true, 0), some (true, 1), some (true, 2), some (true, 3)]
    (by decide) (by decide) Φ

variable (s : Bool) (m : (ℓ : Loc nD τ sig) → Buf (Elt F) ℓ)

/-- Every semaphore's invariant, under the names `K`, and that every semaphore has reached its round. -/
def records (K : Dev nD × Key → ℕ) : sProp 𝕄 :=
  iprop((bigSep Finset.univ fun ck => cellInv ER (talk s m) (K ck) (kcell ck)) ∗ bigSep Finset.univ fun ck => reached ER (kcell ck) 0)
instance records_persistent (K : Dev nD × Key → ℕ) : BI.Persistent (records s m K) := by unfold records; infer_instance

theorem inv_at (K : Dev nD × Key → ℕ) (ck : Dev nD × Key) : records s m K ⊢ cellInv ER (talk s m) (K ck) (kcell ck) := by
  refine BIBase.Entails.trans ?_ (bigSep_elim (Φ := fun ck => cellInv ER (talk s m) (K ck) (kcell ck)) (Finset.mem_univ ck))
  unfold records; iintro ⟨H, -⟩; iexact H
theorem reached_at (K : Dev nD × Key → ℕ) (ck : Dev nD × Key) : records s m K ⊢ reached ER (kcell ck) 0 := by
  refine BIBase.Entails.trans ?_ (bigSep_elim (Φ := fun ck => reached ER (kcell ck) 0) (Finset.mem_univ ck))
  unfold records; iintro ⟨-, H⟩; iexact H

/-- The rights to raise that a device spends. -/
def payToks (c : Dev nD) : sProp 𝕄 :=
  iprop((dutyTok ER (barCell (peer false c)) 0 (place c) ∗ dutyTok ER (barCell (peer true c)) 0 (place c))
    ∗ (bigSep Finset.univ fun k : Fin 4 => dutyTok ER (sendCell k c) 0 false)
    ∗ bigSep Finset.univ fun k : Fin 4 => dutyTok ER (recvCell k (dst s c)) 0 false)
def linear (c : Dev nD) : sProp 𝕄 :=
  iprop((bigSep Finset.univ fun κ : Key => atPos ER (kcell (c, κ)) 0 ∅ 0) ∗ payToks s c)
/-- The credit of its own waits that others pay. -/
def credits (c : Dev nD) : sProp 𝕄 :=
  iprop(cred (tallyAt (barCell c) () 2) ∗ bigSep Finset.univ fun k : Fin 4 => cred (tallyAt (recvCell k c) () N))
/-- The local copies' semaphores, -/
def localSems (c : Dev nD) : sProp 𝕄 :=
  iprop(semVal ((c : Thread nD τ), .dma piS) 0 ∗ bigSep Finset.univ fun k : Fin 4 => semVal ((c : Thread nD τ), .dma (loadS k)) 0)
/-- the talk's semaphores, closed, -/
def talkSems (c : Dev nD) : sProp 𝕄 := bigSep Finset.univ fun κ : Key => semVal (kcell (c, κ)) 0
/-- the buffers in VMEM and SMEM, -/
def scratch (c : Dev nD) : sProp 𝕄 :=
  iprop((∃ f, (c : Thread nD τ).loc cc0_scratch0 ↦{fullShare} f) ∗ (∃ f, (c : Thread nD τ).loc cc0_scratch1 ↦{fullShare} f)
    ∗ (∃ f, (c : Thread nD τ).loc cc0_scratch2 ↦{fullShare} f) ∗ (∃ f, (c : Thread nD τ).loc cc0_scratch3 ↦{fullShare} f))
/-- and the arguments. -/
def args (c : Dev nD) : sProp 𝕄 :=
  iprop(((c : Thread nD τ).loc main_arg0 ↦{fullShare} m ((c : Thread nD τ).loc main_arg0))
    ∗ ((c : Thread nD τ).loc main_arg1 ↦{fullShare} m ((c : Thread nD τ).loc main_arg1)))

def start (c : Dev nD) : sProp 𝕄 := iprop((∃ K, records s m K ∗ linear s c) ∗ credits c ∗ levAts L lv)
def Φ₀ (c : Dev nD) : sProp 𝕄 := iprop(start s m c ∗ localSems c ∗ scratch c ∗ args m c)
def Φ₁ (c : Dev nD) : sProp 𝕄 := iprop(localSems c ∗ talkSems c ∗ scratch c ∗ args m c)

/-- The result of device `c`. -/
def result (c : Dev nD) : (cc0_stg0_0 : Ref sig .tc).ty.Contents (Elt F) := outOf (xin m (dst s c))

def dats (_ : Fin 1) (c : Dev nD) : Dat τ (Elt F) Unit ℕ UU ℕ cfg0 c where
  A w := m ((cfg0.win w).arr.view.loc (c : Thread nD τ))
  after w _ := match w with
    | ⟨0, _⟩ => result s m c
  Φ t := match t with
    | ⟨0, _⟩ => Φ₀ s m c
    | ⟨_ + 1, _⟩ => Φ₁ m c
  q _ := fullShare
  owed t := match t with
    | ⟨0, _⟩ => O₀ s c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The talk's steps from the records -/

section Talk
variable (K : Dev nD × Key → ℕ) (c : Dev nD)

/-- Raise of the barrier of `peer b c`, the payload handed over. -/
theorem wp_raise {α : Type} {Q : α → sProp 𝕄} (b : Bool) (O : CellTallies nD τ sig Unit) (W : Waits sig Unit) (d : Dev nD) (hd : d = peer b c)
    {C : PUnit → Prog (TpuEff nD τ sig (Elt F) Λ₀ .tc) α} :
    iprop(records s m K ∗ owes (c : Thread nD τ) (O + tallyAt (barCell (peer b c)) () 1) W ∗ dutyTok ER (barCell (peer b c)) 0 (place c)
        ∗ (talk s m).payload (barCell (peer b c)) 0 (place c))
      ⊢ iprop((owes (c : Thread nD τ) O W -∗ wp frame (wpE (defs₀ (F := F)) 𝒱₀ (c : Thread nD τ) none) Set.univ (C ⟨⟩) Q)
          -∗ wp frame (wpE (defs₀ (F := F)) 𝒱₀ (c : Thread nD τ) none) Set.univ
            (.op (.semSignal (d, Proc.tc) barS (1#32 : BitVec 32).toInt) C) Q) := by
  subst hd
  iintro ⟨#Hr, Ho, Ht, Hp⟩
  iapply (Rounds.wp_signal 𝒱₀ ER (talk s m) (c : Thread nD τ) none (dst := (peer b c : Thread nD τ)) (κ := K (peer b c, none))
      (d := place c) (by rw [duties_bar]; exact Finset.mem_univ _) ((amount_bar s m (peer b c) (place c)).trans (by decide)) () O rfl)
  isplitr; · iapply (inv_at s m K (peer b c, none)); iexact Hr
  isplitl [Ho]; · iexact Ho
  isplitl [Ht]; · iexact Ht
  isplitl [Hp]; · iexact Hp
  iapply (reached_at s m K (peer b c, none)); iexact Hr

/-- The wait on the barrier, owing the four chunks: it brings the peer's landing buffer, and closes the barrier. -/
theorem wp_bar_wait {α : Type} {Q : α → sProp 𝕄} (W : Waits sig Unit) {C : PUnit → Prog (TpuEff nD τ sig (Elt F) Λ₀ .tc) α} :
    iprop(records s m K ∗ levAts L lv ∗ cred (tallyAt (barCell c) () 2) ∗ owes (c : Thread nD τ) (owesChunks s c 4) W ∗ atPos ER (barCell c) 0 ∅ 0)
      ⊢ iprop(((owes (c : Thread nD τ) (owesChunks s c 4) (insert (SemLoc.reg barS, ()) W) ∗ semVal (barCell c) 0
              ∗ ∃ f, ((dst s c : Dev nD) : Thread nD τ).loc cc0_scratch2 ↦{fullShare} f)
            -∗ wp frame (wpE (defs₀ (F := F)) 𝒱₀ (c : Thread nD τ) none) Set.univ (C ⟨⟩) Q)
          -∗ wp frame (wpE (defs₀ (F := F)) 𝒱₀ (c : Thread nD τ) none) Set.univ
            (.op (.semWait barS (2#32 : BitVec 32).toInt) C) Q) := by
  iintro ⟨#Hr, #Hlev, Hc, Ho, Hat⟩ Hk
  iapply (Rounds.wp_wait_rest_token 𝒱₀ ER (talk s m) (c : Thread nD τ) none (κ := K (c, none))
      (wpE_semWait_eq 𝒱₀ (c : Thread nD τ) none Set.univ) (Set.mem_univ _) () (O := owesChunks s c 4) (W := W) (R := 0) (m := 0) (T := ∅)
      (by rw [expect_bar]; decide)) $$ [Hc Ho Hat]
  · isplitr; · iapply (inv_at s m K (c, none)); iexact Hr
    isplitl [Hc]; · iexact Hc
    isplitl [Ho]; · iexact Ho
    isplitr; · iapply (mayWait_bar s c 4); iexact Hlev
    iexact Hat
  iintro ⟨Ho, Hat, -, Hpay⟩
  ihave Hp := (rest_bar s m c) $$ Hpay
  imod (Rounds.cell_close ER (talk s m) (Set.mem_univ (K (c, none))) (fun h => h) (R := 0 + 1) (duties_later s m (barCell c))) $$ [Hat] with Hz
  · isplitr; · iapply (inv_at s m K (c, none)); iexact Hr
    iexact Hat
  iapply Hk
  isplitl [Ho]; · iexact Ho
  isplitl [Hz]; · iexact Hz
  iexact Hp

/-- The copy of chunk `k`. -/
theorem wp_send_k {α : Type} {Q : α → sProp 𝕄} (k : Fin 4) (n : ℕ) (hk : Fin.ofNat 4 (3 - n) = k) (d : Dev nD) (hd : d = dst s c)
    (fn : Buf (Elt F) ((chunk rM k).view.loc (dst s c : Thread nD τ))) (W : Waits sig Unit)
    {hsc : (chunk rM k : Memref sig (Dev.tc d : Thread nD τ).2.kind .vmem S1x128x512 .i8).view.ref.isScScratch = false}
    {hsrc : (chunk sM k).view.WordExact} {hdst : (chunk rM k).view.WordExact}
    {hsem : DmaTarget.Typed (nD := nD) (τ := τ) (p := Proc.tc) .vmem (.dma (recvS k)) (.remote (Dev.tc d : Thread nD τ) (chunk rM k) (.dma (sendS k)) hsc)}
    {C : PUnit → Prog (TpuEff nD τ sig (Elt F) Λ₀ .tc) α} :
    iprop(records s m K ∗ piece sM k c (qSend (xin m c)) ∗ piece rM k (dst s c) fn ∗ owes (c : Thread nD τ) (owesChunks s c (n + 1)) W
        ∗ dutyTok ER (sendCell k c) 0 false ∗ dutyTok ER (recvCell k (dst s c)) 0 false)
      ⊢ iprop(((cred (tallyAt (sendCell k c) () N) ∗ owes (c : Thread nD τ) (owesChunks s c n) W)
            -∗ wp frame (wpE (defs₀ (F := F)) 𝒱₀ (c : Thread nD τ) none) Set.univ (C ⟨⟩) Q)
          -∗ wp frame (wpE (defs₀ (F := F)) 𝒱₀ (c : Thread nD τ) none) Set.univ
              (.op (.enqueueDma (chunk sM k) (.remote (Dev.tc d : Thread nD τ) (chunk rM k) (.dma (sendS k)) hsc) (.dma (recvS k)) hsrc hdst hsem) C) Q) := by
  iintro ⟨#Hr, Hs, Hd, Ho, Ht1, Ht2⟩
  iapply (wp_send_chunk s m c k n hk d hd (K (c, some (false, k))) (K (dst s c, some (true, k))) fn W)
  isplitr; · iapply (inv_at s m K (c, some (false, k))); iexact Hr
  isplitr; · iapply (inv_at s m K (dst s c, some (true, k))); iexact Hr
  isplitl [Hs]; · iexact Hs
  isplitl [Hd]; · iexact Hd
  isplitl [Ho]; · iexact Ho
  isplitl [Ht1]; · iexact Ht1
  isplitr; · iapply (reached_at s m K (c, some (false, k))); iexact Hr
  isplitl [Ht2]; · iexact Ht2
  iapply (reached_at s m K (dst s c, some (true, k))); iexact Hr

/-- The wait for chunk `k` from the peer, -/
theorem wp_recv_k {α : Type} {Q : α → sProp 𝕄} (k : Fin 4) (W : Waits sig Unit)
    {sp : Space} {s₁ : Shape} {e₁ : EltTy}
    {src : Memref sig Kind.tc sp s₁ e₁} {hsrc : src.view.WordExact} {hdst : (chunk rM k).view.WordExact}
    {C : PUnit → Prog (TpuEff nD τ sig (Elt F) Λ₀ .tc) α} :
    iprop(records s m K ∗ cred (tallyAt (recvCell k c) () N) ∗ owes (c : Thread nD τ) (owesChunks s c 0) W ∗ atPos ER (recvCell k c) 0 ∅ 0)
      ⊢ iprop(((owes (c : Thread nD τ) (owesChunks s c 0) (insert (SemLoc.dma (recvS k), ()) W) ∗ semVal (recvCell k c) 0 ∗ piece rM k c (qRecv (xin m (dst s c))))
            -∗ wp frame (wpE (defs₀ (F := F)) 𝒱₀ (c : Thread nD τ) none) Set.univ (C ⟨⟩) Q)
          -∗ wp frame (wpE (defs₀ (F := F)) 𝒱₀ (c : Thread nD τ) none) Set.univ
            (.op (.waitDma2 (recvS k) src (chunk rM k) hsrc hdst) C) Q) := by
  iintro ⟨#Hr, H⟩
  iapply (wp_recv_wait s m c k (K (c, some (true, k))) W)
  isplitr; · iapply (inv_at s m K (c, some (true, k))); iexact Hr
  iexact H

/-- and for its own copy of chunk `k`. -/
theorem wp_sent_k {α : Type} {Q : α → sProp 𝕄} (k : Fin 4) (W : Waits sig Unit)
    {sp : Space} {s₁ : Shape} {e₁ : EltTy}
    {src : Memref sig Kind.tc sp s₁ e₁} {hsrc : src.view.WordExact} {hdst : (chunk sM k).view.WordExact}
    {C : PUnit → Prog (TpuEff nD τ sig (Elt F) Λ₀ .tc) α} :
    iprop(records s m K ∗ cred (tallyAt (sendCell k c) () N) ∗ owes (c : Thread nD τ) (owesChunks s c 0) W ∗ atPos ER (sendCell k c) 0 ∅ 0)
      ⊢ iprop(((owes (c : Thread nD τ) (owesChunks s c 0) (insert (SemLoc.dma (sendS k), ()) W) ∗ semVal (sendCell k c) 0 ∗ piece sM k c (qSend (xin m c)))
            -∗ wp frame (wpE (defs₀ (F := F)) 𝒱₀ (c : Thread nD τ) none) Set.univ (C ⟨⟩) Q)
          -∗ wp frame (wpE (defs₀ (F := F)) 𝒱₀ (c : Thread nD τ) none) Set.univ
            (.op (.waitDma2 (sendS k) src (chunk sM k) hsrc hdst) C) Q) := by
  iintro ⟨#Hr, H⟩
  iapply (wp_send_wait s m c k (K (c, some (false, k))) W)
  isplitr; · iapply (inv_at s m K (c, some (false, k))); iexact Hr
  iexact H

end Talk

end Cert.KernelIdealTalk

end
-- ==== Proof.KernelIdeal.Exec.lean ====
/-
# The run of the body on device `c`
-/
module

public import proofs.«01_k».proof.Proof.KernelIdeal.Body

@[expose] public section

noncomputable section

namespace Cert.KernelIdealTalk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (s : Bool) (m : (ℓ : Loc nD τ sig) → Buf (Elt F) ℓ)

/-- The one grid point. -/
abbrev t₀ : Fin cfg0.N := t0_0

/-- A whole buffer held at contents `X`, as the pipeline states it. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Key → ℕ) (c : Dev nD) : sProp 𝕄 :=
  iprop((records s m K ∗ linear s c ∗ credits c ∗ levAts L lv) ∗ localSems c ∗ scratch c ∗ args m c
    ∗ (dats s m 0 c).owesAt () t₀.castSucc
    ∗ (∃ d, stg c cc0_stg0_0 ((dats s m 0 c).before (0 : Fin 1) t₀ d)))

def bodyPost (c : Dev nD) : sProp 𝕄 :=
  iprop(Φ₁ m c ∗ (dats s m 0 c).owesAt () t₀.succ ∗ stg c cc0_stg0_0 (result s m c))

set_option maxHeartbeats 4000000 in
/-- The body's run, from `bodyPre` to `bodyPost`. -/
theorem sound_body (hpi : PreOK s m) (K : Dev nD × Key → ℕ) (c : Dev nD) (Kt : PUnit → sProp 𝕄) :
    iprop(bodyPre s m K c ∗ (bodyPost s m c -∗ Kt ⟨⟩))
      ⊢ wp frame (wpE (defs₀ (F := F)) 𝒱₀ (c : Thread nD τ) none) Set.univ
          (cc0_body aM (Memref.isWhole_whole _) piM (Memref.isWhole_whole _) oM (Memref.isWhole_whole _) xM (Memref.isWhole_whole _)
            sM (Memref.isWhole_whole _) rM (Memref.isWhole_whole _) pM (Memref.isWhole_whole _) cc0_scratch4 cc0_scratch5 cc0_scratch6 cc0_scratch7) Kt := by
  unfold bodyPre linear payToks credits localSems scratch args
  simp only [bigSep_fin4, bigSep_key]
  iintro ⟨⟨⟨#Hr, ⟨⟨HatB, HatS0, HatS1, HatS2, HatS3, HatR0, HatR1, HatR2, HatR3⟩, Htb, ⟨HtS0, HtS1, HtS2, HtS3⟩, ⟨HtR0, HtR1, HtR2, HtR3⟩⟩,
    ⟨HcB, HcR0, HcR1, HcR2, HcR3⟩, #Hlev⟩, ⟨Hpi, HL0, HL1, HL2, HL3⟩, ⟨⟨%f0, Hx⟩, ⟨%f1, Hs⟩, Hrv, ⟨%f3, Hp⟩⟩, ⟨Ha, Hpq⟩, Ho, ⟨%d1, %g1, %hg1, Hout⟩⟩, Hk⟩
  unfold Dat.owesAt Pipeline.owesWithin
  icases Ho with ⟨%W, %hW, HO⟩
  rw [show (dats s m 0 c).owed t₀.castSucc = O₀ s c from rfl]
  ihave Ha' := (Entails.of_eq (pieces_a c _)) $$ Ha; icases Ha' with ⟨Ha0, Ha1, Ha2, Ha3⟩
  ihave Hx' := (Entails.of_eq (pieces_x c _)) $$ Hx; icases Hx' with ⟨Hx0, Hx1, Hx2, Hx3⟩
  ihave Hs' := (Entails.of_eq (pieces_s c _)) $$ Hs; icases Hs' with ⟨Hs0, Hs1, Hs2, Hs3⟩
  ihave Hout' := (Entails.of_eq (pieces_o c _)) $$ Hout; icases Hout' with ⟨Hq0, Hq1, Hq2, Hq3⟩
  simp only [cc0_body_eq_skeleton]; unfold cc0_body_skel
  simp only [k0_part9_eq_skeleton]; unfold k0_part9_skel
  -- part 1
  rw [k0_part1_eq_skeleton]; unfold k0_part1_skel
  simp only [semSignalWord, semWaitWord, smemLoad, smemLoadElt_bind, Prog.lift, Prog.bind_op, Prog.bind_ret, Prog.pure_eq_ret, wp_deviceId]
  iapply (wp_pi_issue c _ _) $$ [Hpq Hp Hpi]
  · isplitl [Hpq]; · iexact Hpq
    isplitl [Hp]; · iexact Hp
    iexact Hpi
  iintro Hpi
  iapply (wp_load_issue c 0 (xin m c) _) $$ [Ha0 Hx0 HL0]
  · isplitl [Ha0]; · iexact Ha0
    isplitl [Hx0]; · iexact Hx0
    iexact HL0
  iintro HL0
  iapply (wp_load_issue c 1 (xin m c) _) $$ [Ha1 Hx1 HL1]
  · isplitl [Ha1]; · iexact Ha1
    isplitl [Hx1]; · iexact Hx1
    iexact HL1
  iintro HL1
  iapply (wp_load_issue c 2 (xin m c) _) $$ [Ha2 Hx2 HL2]
  · isplitl [Ha2]; · iexact Ha2
    isplitl [Hx2]; · iexact Hx2
    iexact HL2
  iintro HL2
  -- part 2
  rw [k0_part2_eq_skeleton]; unfold k0_part2_skel
  simp only [semSignalWord, semWaitWord, smemLoad, smemLoadElt_bind, Prog.lift, Prog.bind_op, Prog.bind_ret, Prog.pure_eq_ret, wp_deviceId]
  iapply (wp_load_issue c 3 (xin m c) _) $$ [Ha3 Hx3 HL3]
  · isplitl [Ha3]; · iexact Ha3
    isplitl [Hx3]; · iexact Hx3
    iexact HL3
  iintro HL3
  unfold O₀
  ihave Hb := (hand_over s m c) $$ Hrv
  icases Hb with ⟨Hbf, Hbt⟩
  icases Htb with ⟨Htbf, Htbt⟩
  iapply (wp_raise s m K c false (O₁ s c) W _ (dev1_eq c)) $$ [HO Htbf Hbf]
  · isplitr; · iexact Hr
    isplitl [HO]; · iexact HO
    isplitl [Htbf]; · iexact Htbf
    iexact Hbf
  iintro HO
  unfold O₁
  iapply (wp_raise s m K c true (owesChunks s c 4) W _ (dev2_eq c)) $$ [HO Htbt Hbt]
  · isplitr; · iexact Hr
    isplitl [HO]; · iexact HO
    isplitl [Htbt]; · iexact Htbt
    iexact Hbt
  iintro HO
  iapply (wp_pi_wait s c 4 _ _) $$ [Hpi HO]
  · isplitr; · iexact Hlev
    isplitl [Hpi]; · iexact Hpi
    iexact HO
  iintro ⟨⟨Hp, Hpq⟩, Hpi, HO⟩
  iapply (wp_read_word hpi c) $$ Hp
  iintro %v39 %hv Hp
  have hw := chk_of hv
  rw [wp_assume_of 𝒱₀ (c : Thread nD τ) none Set.univ hw]
  iapply (wp_load_wait s c 0 4 _ _) $$ [HL0 HO]
  · isplitr; · iexact Hlev
    isplitl [HL0]; · iexact HL0
    iexact HO
  iintro ⟨⟨Hx0, Ha0⟩, HL0, HO⟩
  iapply (wp_load_chunk c xM 0 _) $$ Hx0; iintro Hx0
  -- part 3
  rw [k0_part3_eq_skeleton]; unfold k0_part3_skel
  simp only [semSignalWord, semWaitWord, smemLoad, smemLoadElt_bind, Prog.lift, Prog.bind_op, Prog.bind_ret, Prog.pure_eq_ret, wp_deviceId]
  iapply (wp_load_chunk c sM 0 _) $$ Hs0; iintro Hs0
  iapply (wp_store_send c 0 (xin m c) _ rfl) $$ Hs0; iintro Hs0
  iapply (wp_bar_wait s m K c _) $$ [HcB HO HatB]
  · isplitr; · iexact Hr
    isplitr; · iexact Hlev
    isplitl [HcB]; · iexact HcB
    isplitl [HO]; · iexact HO
    iexact HatB
  iintro ⟨HO, HzB, ⟨%fn, Hd⟩⟩
  ihave Hd' := (Entails.of_eq (pieces_r (dst s c) _)) $$ Hd; icases Hd' with ⟨Hd0, Hd1, Hd2, Hd3⟩
  iapply (wp_send_k s m K c 0 3 rfl _ (dev3_of hv _) fn _) $$ [Hs0 Hd0 HO HtS0 HtR0]
  · isplitr; · iexact Hr
    isplitl [Hs0]; · iexact Hs0
    isplitl [Hd0]; · iexact Hd0
    isplitl [HO]; · iexact HO
    isplitl [HtS0]; · iexact HtS0
    iexact HtR0
  iintro ⟨HcS0, HO⟩
  iapply (wp_load_wait s c 1 3 _ _) $$ [HL1 HO]
  · isplitr; · iexact Hlev
    isplitl [HL1]; · iexact HL1
    iexact HO
  iintro ⟨⟨Hx1, Ha1⟩, HL1, HO⟩
  iapply (wp_load_chunk c xM 1 _) $$ Hx1; iintro Hx1
  -- part 4
  rw [k0_part4_eq_skeleton]; unfold k0_part4_skel
  simp only [semSignalWord, semWaitWord, smemLoad, smemLoadElt_bind, Prog.lift, Prog.bind_op, Prog.bind_ret, Prog.pure_eq_ret, wp_deviceId]
  iapply (wp_load_chunk c sM 1 _) $$ Hs1; iintro Hs1
  iapply (wp_store_send c 1 (xin m c) _ rfl) $$ Hs1; iintro Hs1
  iapply (wp_send_k s m K c 1 2 rfl _ (dev4_of hv _) fn _) $$ [Hs1 Hd1 HO HtS1 HtR1]
  · isplitr; · iexact Hr
    isplitl [Hs1]; · iexact Hs1
    isplitl [Hd1]; · iexact Hd1
    isplitl [HO]; · iexact HO
    isplitl [HtS1]; · iexact HtS1
    iexact HtR1
  iintro ⟨HcS1, HO⟩
  iapply (wp_load_wait s c 2 2 _ _) $$ [HL2 HO]
  · isplitr; · iexact Hlev
    isplitl [HL2]; · iexact HL2
    iexact HO
  iintro ⟨⟨Hx2, Ha2⟩, HL2, HO⟩
  iapply (wp_load_chunk c xM 2 _) $$ Hx2; iintro Hx2
  -- part 5
  rw [k0_part5_eq_skeleton]; unfold k0_part5_skel
  simp only [semSignalWord, semWaitWord, smemLoad, smemLoadElt_bind, Prog.lift, Prog.bind_op, Prog.bind_ret, Prog.pure_eq_ret, wp_deviceId]
  iapply (wp_load_chunk c sM 2 _) $$ Hs2; iintro Hs2
  iapply (wp_store_send c 2 (xin m c) _ rfl) $$ Hs2; iintro Hs2
  iapply (wp_send_k s m K c 2 1 rfl _ (dev5_of hv _) fn _) $$ [Hs2 Hd2 HO HtS2 HtR2]
  · isplitr; · iexact Hr
    isplitl [Hs2]; · iexact Hs2
    isplitl [Hd2]; · iexact Hd2
    isplitl [HO]; · iexact HO
    isplitl [HtS2]; · iexact HtS2
    iexact HtR2
  iintro ⟨HcS2, HO⟩
  iapply (wp_load_wait s c 3 1 _ _) $$ [HL3 HO]
  · isplitr; · iexact Hlev
    isplitl [HL3]; · iexact HL3
    iexact HO
  iintro ⟨⟨Hx3, Ha3⟩, HL3, HO⟩
  iapply (wp_load_chunk c xM 3 _) $$ Hx3; iintro Hx3
  -- part 6
  rw [k0_part6_eq_skeleton]; unfold k0_part6_skel
  simp only [semSignalWord, semWaitWord, smemLoad, smemLoadElt_bind, Prog.lift, Prog.bind_op, Prog.bind_ret, Prog.pure_eq_ret, wp_deviceId]
  iapply (wp_load_chunk c sM 3 _) $$ Hs3; iintro Hs3
  iapply (wp_store_send c 3 (xin m c) _ rfl) $$ Hs3; iintro Hs3
  iapply (wp_send_k s m K c 3 0 rfl _ (dev6_of hv _) fn _) $$ [Hs3 Hd3 HO HtS3 HtR3]
  · isplitr; · iexact Hr
    isplitl [Hs3]; · iexact Hs3
    isplitl [Hd3]; · iexact Hd3
    isplitl [HO]; · iexact HO
    isplitl [HtS3]; · iexact HtS3
    iexact HtR3
  iintro ⟨HcS3, HO⟩
  iapply (wp_recv_k s m K c 0 _) $$ [HcR0 HO HatR0]
  · isplitr; · iexact Hr
    isplitl [HcR0]; · iexact HcR0
    isplitl [HO]; · iexact HO
    iexact HatR0
  iintro ⟨HO, HzR0, Hv0⟩
  -- part 7
  rw [k0_part7_eq_skeleton]; unfold k0_part7_skel
  simp only [semSignalWord, semWaitWord, smemLoad, smemLoadElt_bind, Prog.lift, Prog.bind_op, Prog.bind_ret, Prog.pure_eq_ret, wp_deviceId]
  iapply (wp_load_chunk c rM 0 _) $$ Hv0; iintro Hv0
  iapply (wp_load_chunk c oM 0 _) $$ Hq0; iintro Hq0
  iapply (wp_store_out c 0 (xin m (dst s c)) _ rfl) $$ Hq0; iintro Hq0
  iapply (wp_recv_k s m K c 1 _) $$ [HcR1 HO HatR1]
  · isplitr; · iexact Hr
    isplitl [HcR1]; · iexact HcR1
    isplitl [HO]; · iexact HO
    iexact HatR1
  iintro ⟨HO, HzR1, Hv1⟩
  iapply (wp_load_chunk c rM 1 _) $$ Hv1; iintro Hv1
  iapply (wp_load_chunk c oM 1 _) $$ Hq1; iintro Hq1
  iapply (wp_store_out c 1 (xin m (dst s c)) _ rfl) $$ Hq1; iintro Hq1
  -- part 8
  rw [k0_part8_eq_skeleton]; unfold k0_part8_skel
  simp only [semSignalWord, semWaitWord, smemLoad, smemLoadElt_bind, Prog.lift, Prog.bind_op, Prog.bind_ret, Prog.pure_eq_ret, wp_deviceId]
  iapply (wp_recv_k s m K c 2 _) $$ [HcR2 HO HatR2]
  · isplitr; · iexact Hr
    isplitl [HcR2]; · iexact HcR2
    isplitl [HO]; · iexact HO
    iexact HatR2
  iintro ⟨HO, HzR2, Hv2⟩
  iapply (wp_load_chunk c rM 2 _) $$ Hv2; iintro Hv2
  iapply (wp_load_chunk c oM 2 _) $$ Hq2; iintro Hq2
  iapply (wp_store_out c 2 (xin m (dst s c)) _ rfl) $$ Hq2; iintro Hq2
  iapply (wp_recv_k s m K c 3 _) $$ [HcR3 HO HatR3]
  · isplitr; · iexact Hr
    isplitl [HcR3]; · iexact HcR3
    isplitl [HO]; · iexact HO
    iexact HatR3
  iintro ⟨HO, HzR3, Hv3⟩
  iapply (wp_load_chunk c rM 3 _) $$ Hv3; iintro Hv3
  -- the last store, and the waits for the copies sent
  iapply (wp_load_chunk c oM 3 _) $$ Hq3; iintro Hq3
  iapply (wp_store_out c 3 (xin m (dst s c)) _ rfl) $$ Hq3; iintro Hq3
  iapply (wp_sent_k s m K c 0 _) $$ [HcS0 HO HatS0]
  · isplitr; · iexact Hr
    isplitl [HcS0]; · iexact HcS0
    isplitl [HO]; · iexact HO
    iexact HatS0
  iintro ⟨HO, HzS0, Hs0⟩
  iapply (wp_sent_k s m K c 1 _) $$ [HcS1 HO HatS1]
  · isplitr; · iexact Hr
    isplitl [HcS1]; · iexact HcS1
    isplitl [HO]; · iexact HO
    iexact HatS1
  iintro ⟨HO, HzS1, Hs1⟩
  iapply (wp_sent_k s m K c 2 _) $$ [HcS2 HO HatS2]
  · isplitr; · iexact Hr
    isplitl [HcS2]; · iexact HcS2
    isplitl [HO]; · iexact HO
    iexact HatS2
  iintro ⟨HO, HzS2, Hs2⟩
  iapply (wp_sent_k s m K c 3 _) $$ [HcS3 HO HatS3]
  · isplitr; · iexact Hr
    isplitl [HcS3]; · iexact HcS3
    isplitl [HO]; · iexact HO
    iexact HatS3
  iintro ⟨HO, HzS3, Hs3⟩
  rw [wp_ret]; imodintro
  ihave Ha := (Entails.of_eq (pieces_a c (xin m c)).symm) $$ [Ha0 Ha1 Ha2 Ha3]
  · isplitl [Ha0]; · iexact Ha0
    isplitl [Ha1]; · iexact Ha1
    isplitl [Ha2]; · iexact Ha2
    iexact Ha3
  ihave Hx := (Entails.of_eq (pieces_x c (xOf (xin m c))).symm) $$ [Hx0 Hx1 Hx2 Hx3]
  · isplitl [Hx0]; · iexact Hx0
    isplitl [Hx1]; · iexact Hx1
    isplitl [Hx2]; · iexact Hx2
    iexact Hx3
  ihave Hs := (Entails.of_eq (pieces_s c (qSend (xin m c))).symm) $$ [Hs0 Hs1 Hs2 Hs3]
  · isplitl [Hs0]; · iexact Hs0
    isplitl [Hs1]; · iexact Hs1
    isplitl [Hs2]; · iexact Hs2
    iexact Hs3
  ihave Hv := (Entails.of_eq (pieces_r c (qRecv (xin m (dst s c)))).symm) $$ [Hv0 Hv1 Hv2 Hv3]
  · isplitl [Hv0]; · iexact Hv0
    isplitl [Hv1]; · iexact Hv1
    isplitl [Hv2]; · iexact Hv2
    iexact Hv3
  ihave Hout := (Entails.of_eq (pieces_o c (result s m c)).symm) $$ [Hq0 Hq1 Hq2 Hq3]
  · isplitl [Hq0]; · iexact Hq0
    isplitl [Hq1]; · iexact Hq1
    isplitl [Hq2]; · iexact Hq2
    iexact Hq3
  iapply Hk
  unfold bodyPost Φ₁ localSems talkSems scratch args Dat.owesAt Pipeline.owesWithin
  rw [show (dats s m 0 c).owed t₀.succ = 0 from rfl]
  simp only [bigSep_fin4, bigSep_key]
  isplitr [HO Hout]
  · isplitl [Hpi HL0 HL1 HL2 HL3]
    · isplitl [Hpi]; · iexact Hpi
      isplitl [HL0]; · iexact HL0
      isplitl [HL1]; · iexact HL1
      isplitl [HL2]; · iexact HL2
      iexact HL3
    isplitl [HzB HzS0 HzS1 HzS2 HzS3 HzR0 HzR1 HzR2 HzR3]
    · isplitl [HzB]; · iexact HzB
      isplitl [HzS0]; · iexact HzS0
      isplitl [HzS1]; · iexact HzS1
      isplitl [HzS2]; · iexact HzS2
      isplitl [HzS3]; · iexact HzS3
      isplitl [HzR0]; · iexact HzR0
      isplitl [HzR1]; · iexact HzR1
      isplitl [HzR2]; · iexact HzR2
      iexact HzR3
    isplitl [Hx Hs Hv Hp]
    · isplitl [Hx]; · iexists _; iexact Hx
      isplitl [Hs]; · iexists _; iexact Hs
      isplitl [Hv]; · iexists _; iexact Hv
      iexists _; iexact Hp
    isplitl [Ha]; · iexact Ha
    iexact Hpq
  isplitl [HO]
  · iexists _
    isplitr; rotate_left
    · iexact HO
    · ipureintro; exact fun _ _ => Or.inl trivial
  iexists _; isplitr; · (ipureintro; rfl)
  iexact Hout

end Cert.KernelIdealTalk

end
-- ==== Proof.KernelIdeal.Launch.lean ====
/-
# The launch of the eight devices

The ghost state of the talk is made once for all devices and dealt: each device keeps the positions of its own
semaphores, and gets the rights to raise that it spends — those of its peers' barriers and of its peer's receive
semaphores. The run of the program follows: it ends on every device with the peer's block quantised and scaled back, the
arguments unchanged and every semaphore at zero.
-/
module

public import proofs.«01_k».proof.Proof.KernelIdeal.Exec
public import Idealize.ShloMosaic.Lib.Pipeline.CollectiveSegs
public import Idealize.ShloMosaic.Lib.Pipeline.ValueKit.Geometry
public import Idealize.ShloMosaic.Lib.Quiescent

@[expose] public section

noncomputable section

namespace Cert.KernelIdealTalk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (s : Bool) (m : (ℓ : Loc nD τ sig) → Buf (Elt F) ℓ) (ρ : Dev nD → PrngReg)

/-! ## The body's obligation -/

def bodyStart (c : Dev nD) : sProp 𝕄 :=
  iprop(Φ₀ s m c ∗ (dats s m 0 c).owesAt () t₀.castSucc ∗ (∃ d, stg c cc0_stg0_0 ((dats s m 0 c).before (0 : Fin 1) t₀ d)))

set_option maxRecDepth 4000 in
theorem body_obligation (hpi : PreOK s m) (c : Dev nD) :
    BodyObligation (dats (F := F) s m 0 c) (defs₀ (F := F)) 𝒱₀ () Set.univ := fun t => by
  rw [fin_N0 t]
  rw [bigSep_W0, bigSep_W0]
  simp only [owns_whole_eq]
  show bodyStart s m c ⊢ wp frame (wpE (defs₀ (F := F)) 𝒱₀ c none) Set.univ
    (cc0_body aM (Memref.isWhole_whole _) piM (Memref.isWhole_whole _) oM (Memref.isWhole_whole _) xM (Memref.isWhole_whole _)
      sM (Memref.isWhole_whole _) rM (Memref.isWhole_whole _) pM (Memref.isWhole_whole _) cc0_scratch4 cc0_scratch5 cc0_scratch6 cc0_scratch7)
    (fun _ => bodyPost s m c)
  unfold bodyStart Φ₀ start
  iintro ⟨⟨⟨⟨%K, Hr, Hlin⟩, Hcr, Hlev⟩, Hloc, Hscr, Harg⟩, Ho, Hout⟩
  iapply (sound_body s m hpi K c fun _ => bodyPost s m c)
  unfold bodyPre
  isplitr []
  · isplitl [Hr Hlin Hcr Hlev]
    · isplitl [Hr]; · iexact Hr
      isplitl [Hlin]; · iexact Hlin
      isplitl [Hcr] <;> iassumption
    isplitl [Hloc]; · iexact Hloc
    isplitl [Hscr]; · iexact Hscr
    isplitl [Harg]; · iexact Harg
    isplitl [Ho] <;> iassumption
  · iintro H; iexact H

/-! ## The semaphores and the ghost state of the launch -/

/-- The kernel's own scoped semaphores: `pi`'s, then the four of loads, sends and receives. -/
abbrev osem : Fin 13 → SemLoc sig := fun i => .dma ⟨1 + i.val, by have := i.isLt; show 1 + i.val < 14; omega⟩

theorem ownSemFacts : Pipeline.OwnSemFacts cfg0.spec osem := by decide

theorem share_eq (c : Dev nD) (w : Fin cfg0.W) : (dats s m 0 c).share w = fullShare := by unfold Dat.share; split <;> rfl

theorem kcell_dev (ck : Dev nD × Key) : (kcell ck).1.1 = ck.1 := by
  obtain ⟨c, _ | ⟨_ | _, k⟩⟩ := ck <;> rfl
/-- Which of the talk's semaphores a semaphore is. -/
def keyOf (sm : SemLoc sig) : Key := copyOf sm
theorem keyOf_kcell (ck : Dev nD × Key) : keyOf (kcell ck).2 = ck.2 := by
  obtain ⟨c, _ | ⟨_ | _, k⟩⟩ := ck
  · rfl
  · exact copyOf_send k
  · exact copyOf_recv k
theorem kcell_injective : Function.Injective (kcell : Dev nD × Key → GSem nD τ sig) := fun x y h =>
  Prod.ext (by rw [← kcell_dev x, ← kcell_dev y, h]) (by rw [← keyOf_kcell x, ← keyOf_kcell y, h])
def talkCells : Finset (GSem nD τ sig) := Finset.univ.map ⟨kcell, kcell_injective⟩

/-- The rights to raise a device's semaphores: two of its barrier, one of each send and receive semaphore. -/
abbrev Right : Type := Bool ⊕ (Bool × Fin 4)
abbrev rightOf : Dev nD × Right → GSem nD τ sig × ℕ × Bool
  | (c, .inl b) => (barCell c, 0, b)
  | (c, .inr x) => (kcell (c, some x), 0, false)
theorem rightOf_injective : Function.Injective (rightOf : Dev nD × Right → GSem nD τ sig × ℕ × Bool) := by
  rintro ⟨c, b | x⟩ ⟨c', b' | x'⟩ h
  · have h1 : kcell (c, none) = kcell (c', none) := congrArg Prod.fst h
    have h2 : b = b' := congrArg (fun y => y.2.2) h
    have h3 := kcell_injective h1
    rw [h2, (Prod.mk.inj h3).1]
  · have h1 : kcell (c, none) = kcell (c', some x') := congrArg Prod.fst h
    exact absurd (Prod.mk.inj (kcell_injective h1)).2 (fun h => by cases h)
  · have h1 : kcell (c, some x) = kcell (c', none) := congrArg Prod.fst h
    exact absurd (Prod.mk.inj (kcell_injective h1)).2 (fun h => by cases h)
  · have h1 : kcell (c, some x) = kcell (c', some x') := congrArg Prod.fst h
    have h3 := Prod.mk.inj (kcell_injective h1)
    rw [h3.1, Option.some.inj h3.2]
def talkRights : Finset (GSem nD τ sig × ℕ × Bool) := Finset.univ.map ⟨rightOf, rightOf_injective⟩

def u₀ : UU :=
  (initOf (Pipeline.cells cfgs cellOf_inj) (Pipeline.launchToks cfgs cellOf_inj), (initOf talkCells talkRights, 1))

/-- The rights to raise device `c`'s own semaphores. -/
def rights (c : Dev nD) : sProp 𝕄 :=
  iprop((bigSep Finset.univ fun b : Bool => dutyTok ER (barCell c) 0 b)
    ∗ (bigSep Finset.univ fun k : Fin 4 => dutyTok ER (sendCell k c) 0 false) ∗ bigSep Finset.univ fun k : Fin 4 => dutyTok ER (recvCell k c) 0 false)

/-- What the launch deals device `c`, -/
def G (c : Dev nD) : sProp 𝕄 :=
  iprop((bigSep Finset.univ fun κ : Key => roundState ER (talk s m) (kcell (c, κ)) 0)
    ∗ (bigSep Finset.univ fun κ : Key => iprop(atPos ER (kcell (c, κ)) 0 ∅ 0 ∗ reached ER (kcell (c, κ)) 0)) ∗ rights c)
/-- and what the devices make of it together. -/
def G' (c : Dev nD) : sProp 𝕄 := iprop(localSems c ∗ ∃ K, records s m K ∗ linear s c)

theorem rights_intro (c : Dev nD) : (bigSep Finset.univ fun j : Right => dutyTok ER (rightOf (c, j)).1 (rightOf (c, j)).2.1 (rightOf (c, j)).2.2 : sProp 𝕄) ⊢ rights c := by
  unfold rights
  rw [bigSep_univ_eq_bigSepL [Sum.inl false, Sum.inl true, Sum.inr (false, 0), Sum.inr (false, 1), Sum.inr (false, 2), Sum.inr (false, 3),
    Sum.inr (true, 0), Sum.inr (true, 1), Sum.inr (true, 2), Sum.inr (true, 3)] (by decide) (by decide),
    bigSep_univ_eq_bigSepL [false, true] (by decide) (by decide), bigSep_fin4, bigSep_fin4]
  show iprop(dutyTok ER (barCell c) 0 false ∗ dutyTok ER (barCell c) 0 true ∗ dutyTok ER (sendCell 0 c) 0 false ∗ dutyTok ER (sendCell 1 c) 0 false
    ∗ dutyTok ER (sendCell 2 c) 0 false ∗ dutyTok ER (sendCell 3 c) 0 false ∗ dutyTok ER (recvCell 0 c) 0 false ∗ dutyTok ER (recvCell 1 c) 0 false
    ∗ dutyTok ER (recvCell 2 c) 0 false ∗ dutyTok ER (recvCell 3 c) 0 false) ⊢ iprop((dutyTok ER (barCell c) 0 false ∗ dutyTok ER (barCell c) 0 true) ∗ _)
  iintro ⟨B0, B1, S0, S1, S2, S3, R0, R1, R2, R3⟩
  isplitl [B0 B1]
  · isplitl [B0] <;> iassumption
  isplitl [S0 S1 S2 S3]
  · isplitl [S0]; · iexact S0
    isplitl [S1]; · iexact S1
    isplitl [S2] <;> iassumption
  isplitl [R0]; · iexact R0
  isplitl [R1]; · iexact R1
  isplitl [R2] <;> iassumption

theorem fund_talk : BI.own (ER (initOf talkCells talkRights)) ⊢ (|==> bigSep Finset.univ (G s m) : sProp 𝕄) := by
  have hX (Φ : GSem nD τ sig → sProp 𝕄) : bigSep talkCells Φ = bigSep Finset.univ fun c : Dev nD => bigSep Finset.univ fun κ : Key => Φ (kcell (c, κ)) := by
    unfold talkCells; rw [bigSep_map, bigSep_univ_prod]; rfl
  have hT : bigSep talkRights (fun x => (dutyTok ER x.1 x.2.1 x.2.2 : sProp 𝕄)) ⊢ bigSep Finset.univ fun c : Dev nD => rights c := by
    unfold talkRights; rw [bigSep_map, bigSep_univ_prod]
    exact bigSep_mono fun c _ => rights_intro c
  iintro HX
  imod (Rounds.fund ER (talk s m) talkCells talkRights) $$ HX with ⟨Hst, Hr, Hat, Htok⟩
  imodintro
  ihave Hst' := (Entails.of_eq (hX fun g => roundState ER (talk s m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-- The own semaphores at zero are the local copies' and the remote copies'; -/
theorem ownSems0_eq (c : Dev nD) : (Pipeline.ownSems0 (Ix := Unit) (Name := ℕ) (U := UU) (Lvl := ℕ) (Val := Elt F) (τ := τ) osem c : sProp 𝕄)
    = iprop(semVal ((c : Thread nD τ), .dma piS) 0
      ∗ semVal ((c : Thread nD τ), .dma (loadS 0)) 0 ∗ semVal ((c : Thread nD τ), .dma (loadS 1)) 0
      ∗ semVal ((c : Thread nD τ), .dma (loadS 2)) 0 ∗ semVal ((c : Thread nD τ), .dma (loadS 3)) 0
      ∗ semVal (sendCell 0 c) 0 ∗ semVal (sendCell 1 c) 0 ∗ semVal (sendCell 2 c) 0 ∗ semVal (sendCell 3 c) 0
      ∗ semVal (recvCell 0 c) 0 ∗ semVal (recvCell 1 c) 0 ∗ semVal (recvCell 2 c) 0 ∗ semVal (recvCell 3 c) 0) := by
  rw [Pipeline.ownSems0_eq_of_list c osem [0, 1, 2, 3, 4, 5, 6, 7, 8, 9, 10, 11, 12] (by decide) (by decide)]; rfl
/-- the barrier's is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems_in (c : Dev nD) :
    iprop(Pipeline.ownSems0 (Ix := Unit) (Name := ℕ) (U := UU) (Lvl := ℕ) (Val := Elt F) (τ := τ) osem c ∗ unscopedSems0 c)
      ⊢ (iprop(localSems c ∗ talkSems c) : sProp 𝕄) := by
  rw [ownSems0_eq, unscopedSems0_eq]
  unfold localSems talkSems
  rw [bigSep_key, bigSep_fin4]
  iintro ⟨⟨HP, L0, L1, L2, L3, S0, S1, S2, S3, R0, R1, R2, R3⟩, HB⟩
  isplitl [HP L0 L1 L2 L3]
  · isplitl [HP]; · iexact HP
    isplitl [L0]; · iexact L0
    isplitl [L1]; · iexact L1
    isplitl [L2] <;> iassumption
  isplitl [HB]; · iexact HB
  isplitl [S0]; · iexact S0
  isplitl [S1]; · iexact S1
  isplitl [S2]; · iexact S2
  isplitl [S3]; · iexact S3
  isplitl [R0]; · iexact R0
  isplitl [R1]; · iexact R1
  isplitl [R2] <;> iassumption
theorem sems_out (c : Dev nD) :
    (iprop(localSems c ∗ talkSems c) : sProp 𝕄)
      ⊢ iprop(Pipeline.ownSems0 (Ix := Unit) (Name := ℕ) (U := UU) (Lvl := ℕ) (Val := Elt F) (τ := τ) osem c ∗ unscopedSems0 c) := by
  rw [ownSems0_eq, unscopedSems0_eq]
  unfold localSems talkSems
  rw [bigSep_key, bigSep_fin4]
  iintro ⟨⟨HP, L0, L1, L2, L3⟩, HB, S0, S1, S2, S3, R0, R1, R2, R3⟩
  isplitr [HB]
  · isplitl [HP]; · iexact HP
    isplitl [L0]; · iexact L0
    isplitl [L1]; · iexact L1
    isplitl [L2]; · iexact L2
    isplitl [L3]; · iexact L3
    isplitl [S0]; · iexact S0
    isplitl [S1]; · iexact S1
    isplitl [S2]; · iexact S2
    isplitl [S3]; · iexact S3
    isplitl [R0]; · iexact R0
    isplitl [R1]; · iexact R1
    isplitl [R2] <;> iassumption
  iexact HB

theorem core_alloc (c : Dev nD) :
    iprop(Pipeline.ownSems0 (Ix := Unit) (Name := ℕ) (U := UU) (Lvl := ℕ) (Val := Elt F) (τ := τ) osem c ∗ unscopedSems0 c ∗ G s m c)
      ⊢ |={Set.univ}=> iprop((bigSep Finset.univ fun κ : Key => iprop(∃ n : ℕ, cellInv ER (talk s m) n (kcell (c, κ))))
          ∗ (bigSep Finset.univ fun κ : Key => iprop(atPos ER (kcell (c, κ)) 0 ∅ 0 ∗ reached ER (kcell (c, κ)) 0)) ∗ rights c ∗ localSems c) := by
  unfold G
  iintro ⟨Hos, Hus, Hst, Hat, Htok⟩
  ihave Hv := (sems_in (F := F) c) $$ [Hos Hus]
  · isplitl [Hos] <;> iassumption
  icases Hv with ⟨Hloc, Hv⟩
  unfold talkSems
  imod (show iprop((bigSep Finset.univ fun κ : Key => semVal (kcell (c, κ)) 0) ∗ bigSep Finset.univ fun κ : Key => roundState ER (talk s m) (kcell (c, κ)) 0)
      ⊢ (|={Set.univ}=> bigSep Finset.univ fun κ : Key => iprop(∃ n : ℕ, cellInv ER (talk s m) n (kcell (c, κ))) : sProp 𝕄) from by
        rw [← bigSep_sep']
        exact (bigSep_mono fun κ _ => (Rounds.body_intro ER (talk s m) (kcell (c, κ))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- The rights dealt: a right to raise a barrier goes to the device that raises it, and the rights to raise a device's
    receive semaphores to the device that copies to it. -/
theorem rights_around : (bigSep Finset.univ fun c : Dev nD => (rights c : sProp 𝕄)) ⊢ bigSep Finset.univ fun c : Dev nD => payToks s c := by
  have hbar : (bigSep Finset.univ fun c : Dev nD => bigSep Finset.univ fun b : Bool => (dutyTok ER (barCell c) 0 b : sProp 𝕄))
      = bigSep Finset.univ fun c : Dev nD => iprop(dutyTok ER (barCell (peer false c)) 0 (place c) ∗ dutyTok ER (barCell (peer true c)) 0 (place c)) := by
    rw [← bigSep_univ_prod (fun x : Dev nD × Bool => (dutyTok ER (barCell x.1) 0 x.2 : sProp 𝕄)), bigSep_univ_equiv raises, bigSep_univ_prod]
    exact bigSep_congr fun c _ => bigSep_univ_eq_bigSepL [false, true] (by decide) (by decide) _
  unfold rights payToks
  rw [bigSep_sep', bigSep_sep', bigSep_sep', bigSep_sep' Finset.univ _ fun c : Dev nD => bigSep Finset.univ fun k : Fin 4 => dutyTok ER (recvCell k (dst s c)) 0 false, hbar,
    bigSep_univ_equiv (swap s) (fun c : Dev nD => (bigSep Finset.univ fun k : Fin 4 => dutyTok ER (recvCell k c) 0 false : sProp 𝕄))]
  exact Entails.of_eq rfl

theorem regroup :
    (bigSep Finset.univ fun c : Dev nD => iprop((bigSep Finset.univ fun κ : Key => iprop(∃ n : ℕ, cellInv ER (talk s m) n (kcell (c, κ))))
          ∗ (bigSep Finset.univ fun κ : Key => iprop(atPos ER (kcell (c, κ)) 0 ∅ 0 ∗ reached ER (kcell (c, κ)) 0)) ∗ rights c ∗ localSems c) : sProp 𝕄)
      ⊢ bigSep Finset.univ (G' s m) := by
  rw [bigSep_sep', bigSep_sep', bigSep_sep', ← bigSep_univ_prod (fun ck : Dev nD × Key => iprop(∃ n : ℕ, cellInv ER (talk s m) n (kcell ck))),
    bigSep_congr (s := Finset.univ) (fun (c : Dev nD) _ => bigSep_sep' Finset.univ (fun κ : Key => (atPos ER (kcell (c, κ)) 0 ∅ 0 : sProp 𝕄)) (fun κ => reached ER (kcell (c, κ)) 0)),
    bigSep_sep', ← bigSep_univ_prod (fun ck : Dev nD × Key => (reached ER (kcell ck) 0 : sProp 𝕄))]
  iintro ⟨HI, ⟨Hat, #HR⟩, Htok, Hloc⟩
  ihave HK := (BI.bigSep_exists_pi Finset.univ (fun (ck : Dev nD × Key) (n : ℕ) => (cellInv ER (talk s m) n (kcell ck) : sProp 𝕄))) $$ HI
  icases HK with ⟨%K, #HI⟩
  ihave Htk := (rights_around (F := F) s) $$ Htok
  unfold G'
  rw [bigSep_sep']
  isplitl [Hloc]; · iexact Hloc
  iapply (BI.bigSep_with_persistent (R := records s m K) (Φ := fun c => linear s c) fun c _ => by
    iintro ⟨#Hr, Hl⟩; iexists K; isplitr; · iexact Hr
    iexact Hl)
  isplitr
  · unfold records; isplitl; · iexact HI
    iexact HR
  · unfold linear
    rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G s m c) : sProp 𝕄)
    ⊢ |={Set.univ}=> bigSep Finset.univ (G' s m) :=
  ((bigSep_mono fun c _ => core_alloc s m c).trans (bigSep_fupd _ _)).trans (BI.fupd_mono (regroup s m))

/-! ## The launch credit -/

theorem bar_eq_iff {a b : Dev nD} : (barCell a = barCell b) ↔ (a = b) :=
  ⟨fun h => congrArg Prod.fst (kcell_injective (a₁ := (a, none)) (a₂ := (b, none)) h), fun h => h ▸ rfl⟩
theorem recv_eq_iff {k l : Fin 4} {a b : Dev nD} : (recvCell k a = recvCell l b) ↔ (k = l ∧ a = b) :=
  ⟨fun h => by
    have h := Prod.mk.inj (kcell_injective (a₁ := (a, some (true, k))) (a₂ := (b, some (true, l))) h)
    exact ⟨(Prod.mk.inj (Option.some.inj h.2)).2, h.1⟩, fun ⟨h, h'⟩ => h ▸ h' ▸ rfl⟩

theorem owesChunks_bar (d c : Dev nD) (n : ℕ) : owesChunks s d n (barCell c) () = 0 := by
  induction n with
  | zero => rfl
  | succ n ih =>
    unfold owesChunks
    rw [Pi.add_apply, Finsupp.add_apply, ih, tallyAt_apply, if_neg fun h => recv_ne_bar _ (congrArg Prod.snd h.1).symm]
theorem owed_bar (d c : Dev nD) :
    O₀ s d (barCell c) () = (if c = peer true d then 1 else 0) + (if c = peer false d then 1 else 0) := by
  unfold O₀ O₁
  rw [Pi.add_apply, Finsupp.add_apply, Pi.add_apply, Finsupp.add_apply, tallyAt_apply, tallyAt_apply, owesChunks_bar, Nat.zero_add]
  simp only [bar_eq_iff, and_true]
theorem owed_recv (k : Fin 4) (d c : Dev nD) : O₀ s d (recvCell k c) () = if d = dst s c then N else 0 := by
  have hd : (c = dst s d) ↔ (d = dst s c) := ⟨fun h => by rw [h, dst_dst], fun h => by rw [h, dst_dst]⟩
  unfold O₀ O₁
  rw [Pi.add_apply, Finsupp.add_apply, Pi.add_apply, Finsupp.add_apply, tallyAt_ne_cell (fun h => recv_ne_bar _ (congrArg Prod.snd h)),
    tallyAt_ne_cell (fun h => recv_ne_bar _ (congrArg Prod.snd h)), Finsupp.zero_apply, Nat.add_zero, Nat.add_zero]
  unfold owesChunks owesChunks owesChunks owesChunks owesChunks
  simp only [Pi.add_apply, Finsupp.add_apply, tallyAt_apply, recv_eq_iff, hd, and_true]
  have h3 : Fin.ofNat 4 (3 - 3) = 0 := rfl
  have h2 : Fin.ofNat 4 (3 - 2) = 1 := rfl
  have h1 : Fin.ofNat 4 (3 - 1) = 2 := rfl
  have h0 : Fin.ofNat 4 (3 - 0) = 3 := rfl
  by_cases h : d = dst s c
  · subst h
    revert k; generalize N = x; intro k; fin_cases k <;> simp [Fin.ext_iff]
  · simp [h]

theorem launch_bar (c : Dev nD) :
    tallyOn (barCell c) (launchCredit (Pipeline.owing (O₀ s)) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar s d c]
  revert c; decide
theorem launch_recv (k : Fin 4) (c : Dev nD) :
    tallyOn (recvCell k c) (launchCredit (Pipeline.owing (O₀ s)) 0 (recvCell k c)) = (tallyAt (recvCell k c) () N : CellTallies nD τ sig Unit) := by
  unfold tallyAt; refine congrArg _ (Finsupp.ext fun u => ?_); cases u
  rw [Pipeline.launchCredit_owing, Finsupp.single_eq_same, Finset.sum_congr rfl fun d _ => owed_recv s k d c,
    Finset.sum_ite_eq' Finset.univ (dst s c) fun _ => N, if_pos (Finset.mem_univ _)]

theorem creds (c : Dev nD) : (Pipeline.launchCred (O₀ s) c : sProp 𝕄) ⊢ credits c := by
  unfold Pipeline.launchCred credits
  refine (bigSep_subset (Finset.subset_univ ([SemLoc.reg barS, .dma (recvS 0), .dma (recvS 1), .dma (recvS 2), .dma (recvS 3)] : List (SemLoc sig)).toFinset)).trans ?_
  rw [bigSep_eq_bigSepL_of_eq [SemLoc.reg barS, .dma (recvS 0), .dma (recvS 1), .dma (recvS 2), .dma (recvS 3)] rfl (by decide), bigSep_fin4,
    ← launch_bar s, ← launch_recv s, ← launch_recv s, ← launch_recv s, ← launch_recv s]
  exact BI.Entails.refl _

/-! ## The launch's side conditions -/

theorem start_intro (c : Dev nD) :
    iprop(Pipeline.unscopedRestP Pipeline.Prefetch.none cfg0.spec c (fun b => m ((c : Thread nD τ).loc b)) ∗ levAts L lv
        ∗ Pipeline.launchCred (O₀ s) c ∗ prngReg c (ρ c) ∗ G' s m c)
      ⊢ |={Set.univ}=> iprop((start s m c ∗ localSems c ∗ args m c) ∗ emp) := by
  rw [Pipeline.unscopedRestP_none, unscopedRest0_eq]
  unfold args
  iintro ⟨Harg, Hlev, Hcr, -, HG⟩
  ihave Hc := (creds (F := F) s c) $$ Hcr
  unfold start G'
  icases HG with ⟨Hloc, HG⟩
  imodintro
  isplitl
  · isplitl [HG Hc Hlev]
    · isplitl [HG]; · iexact HG
      isplitl [Hc] <;> iassumption
    isplitl [Hloc] <;> iassumption
  · iempintro

theorem phi0_intro (c : Dev nD) :
    iprop((start s m c ∗ localSems c ∗ args m c) ∗ Pipeline.prefHeld Pipeline.Prefetch.none c (fun _ => fullShare.right) (fun k => k.elim0) ∗ Pipeline.scopedRest cfg0.spec c)
      ⊢ (dats s m 0 c).Φ 0 := by
  rw [show (dats s m 0 c).Φ 0 = Φ₀ s m c from rfl, scopedRest0_eq]
  unfold Φ₀ scratch
  iintro ⟨⟨Hs, Hl, Ha⟩, -, Hr⟩
  isplitl [Hs]; · iexact Hs
  isplitl [Hl]; · iexact Hl
  isplitl [Hr] <;> iassumption

theorem phi1_exit (c : Dev nD) :
    (dats s m 0 c).Φ (Fin.last cfg0.N) ⊢ iprop((unscopedSems0 c ∗ args m c) ∗ Pipeline.ownSems0 osem c ∗ Pipeline.scopedRest cfg0.spec c) := by
  rw [show (dats s m 0 c).Φ (Fin.last cfg0.N) = Φ₁ m c from rfl, scopedRest0_eq]
  unfold Φ₁ scratch
  iintro ⟨Hl, Ht, Hr, Ha⟩
  ihave Hz := (sems_out (F := F) c) $$ [Hl Ht]
  · isplitl [Hl] <;> iassumption
  icases Hz with ⟨Ho, Hu⟩
  isplitl [Hu Ha]
  · isplitl [Hu] <;> iassumption
  isplitl [Ho] <;> iassumption

theorem waits (c : Dev nD) : (levAts L lv : sProp 𝕄) ⊢ Pipeline.cellsWaits cfgs (dats s m) () 0 c :=
  Pipeline.cellsWaits_intro cfgs (dats s m) () 0 c fun w i t => by
    have hq : IsLocal ((cfg0.win w).sem i) := by
      intro k; revert w i; fin_cases k <;> decide
    rcases t with ⟨_ | _, ht⟩
    · exact mayWait_local₀ s c _ hq
    · exact mayWait_local s c _ hq 0

/-! ## The run -/

/-- The result array's contents after the run. -/
theorem final_v1 (c : Dev nD) : (dats s m 0 c).arrAt (0 : Fin 1) cfg0.N = result s m c :=
  (dats s m 0 c).arrAt_eq_of_after_last (0 : Fin 1) t₀ (by decide) (result s m c) (fun j => rfl)

/-- What the run ends with: every device's result, the arguments as they were, every semaphore at zero. -/
def Ends : PUnit × MemSt nD τ sig (Elt F) → Prop := fun r =>
  (∀ c : Dev nD, r.2.mem ((c : Thread nD τ).loc main_v1) = result s m c
    ∧ r.2.mem ((c : Thread nD τ).loc main_arg0) = m ((c : Thread nD τ).loc main_arg0)
    ∧ r.2.mem ((c : Thread nD τ).loc main_arg1) = m ((c : Thread nD τ).loc main_arg1))
  ∧ r.2.sem = fun _ => 0

set_option maxRecDepth 8000 in
theorem run_main (hpi : PreOK s m) : θ_run defs (onTc (τ := τ) (main (F := F))) ⟨m, fun _ => 0, ρ⟩ (Ends s m) :=
  Pipeline.θ_run_region_owing_glob_pf (fun p => (cfgs p).toPCfg) (fun p => (cfgs p).toPCfg_adm) (dats s m) () cellOf_inj (0 : Fin 1)
    winFacts0.to₀ ownSemFacts (Pipeline.PreFacts.none _) EP defs₀ 𝒱₀ m ρ main
    (hmain := fun _ => rfl)
    (hbody := fun c => (body_obligation s m hpi c)) (hne := block_pos0) (harr := arr_whole0) (hstage := stage_whole0) (hshare := share_eq s m)
    (hdistinct := winFacts0.arr_inj)
    (O₀ := O₀ s) (howed₀ := fun _ => rfl) (howedN := fun _ => rfl)
    (L := L) (lv := lv) (hL := L_of_ne) (hwaits := waits s m)
    (G := G s m) (G' := G' s m) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (fund_talk s m) $$ HX with HG
      imodintro
      isplitl [HP] <;> iassumption)
    (hglob := glob s m)
    (hA := fun _ _ => rfl) (hpf := fun _ k => k.elim0)
    (X := fun c => iprop(start s m c ∗ localSems c ∗ args m c)) (Y := fun c => iprop(unscopedSems0 c ∗ args m c)) (Z := fun _ => iprop(emp))
    (hX := start_intro s m ρ) (hin := phi0_intro s m) (hout := phi1_exit s m)
    (QY := fun c r => (r.mem ((c : Thread nD τ).loc main_arg0) = m ((c : Thread nD τ).loc main_arg0)
        ∧ r.mem ((c : Thread nD τ).loc main_arg1) = m ((c : Thread nD τ).loc main_arg1))
      ∧ ∀ sm : SemLoc sig, sm.isScoped .tc = false → r.sem ((c.tc : Thread nD τ), sm) = 0)
    (hY := fun c s' => by
      unfold args
      iintro ⟨⟨Hu, H0, H1⟩, -, HSI⟩
      icombine HSI H0 gives %h0
      icombine HSI H1 gives %h1
      imod (Pipeline.unscopedSems0_read (X := unscopedSems0 c) (c := c) fupd_intro s') $$ [Hu HSI] with ⟨%hz, HSI⟩
      · isplitl [Hu] <;> iassumption
      imodintro
      isplitr
      · ipureintro; exact ⟨⟨Buf.eq_of_forall_mem_univ h0, Buf.eq_of_forall_mem_univ h1⟩, hz⟩
      iexact HSI)
    (hQ := fun _ h hs => ⟨fun c => ⟨((h c).1 0).trans (final_v1 s m c), (h c).2.2.1⟩, sem_eq_zero hs fun c => (h c).2.2.2⟩)

end Cert.KernelIdealTalk

end
-- ==== Proof.KernelIdeal.Frame.lean ====
/-
# The permutation read from the precondition, and the frame

Each precondition gives the entry of `pi` that the device reads, and with it the run.
-/
module

public import proofs.«01_k».proof.Proof.KernelIdeal.Launch
public import proofs.«01_k».proof.Proof.Words.Pre

@[expose] public section

noncomputable section

namespace Cert.KernelIdealTalk

open Cert.KernelIdeal Cert.KernelIdeal.Gen

open Idealize.ShloMosaic
open Idealize.ShloMosaic.TcCoe
open Idealize.SL.Sem

variable {F : FTy → Type} [FloatOps F]

theorem preOK_of (s : Bool) (m : (ℓ : Loc nD τ sig) → Buf (Elt F) ℓ)
    (h : ∀ (c : Dev nD) (i : S2.Idx), m ((c.tc : Thread nD τ).loc main_arg1) i = Cert.Words.entry s (i 0).val) : PreOK s m := by
  intro c i hi
  have hp : decide (1 ≤ c.val / 4) = place c := by
    unfold place
    exact decide_eq_decide.2 (by omega)
  rw [h c i, Cert.Words.entry, wordOf, hi, hp]

theorem preOK_swaps (m : (ℓ : Loc nD τ sig) → Buf (Elt F) ℓ)
    (h : ∀ c : Dev nD, Cert.Pre_swaps_Kernel.fn (F := F) (m ((c.tc : Thread nD τ).loc main_arg0))
      (m ((c.tc : Thread nD τ).loc main_arg1)) = fun _ => 1#1) : PreOK true m :=
  preOK_of true m fun c i => Cert.Words.of_swaps _ _ (h c) i

theorem preOK_stays (m : (ℓ : Loc nD τ sig) → Buf (Elt F) ℓ)
    (h : ∀ c : Dev nD, Cert.Pre_stays_Kernel.fn (F := F) (m ((c.tc : Thread nD τ).loc main_arg0))
      (m ((c.tc : Thread nD τ).loc main_arg1)) = fun _ => 1#1) : PreOK false m :=
  preOK_of false m fun c i => Cert.Words.of_stays _ _ (h c) i

/-- The run leaves the arguments as they were and every semaphore at zero. -/
theorem frame (s : Bool) (m : (ℓ : Loc nD τ sig) → Buf (Elt F) ℓ) (ρ : Dev nD → PrngReg) (hpi : PreOK s m) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun _ h => ⟨fun c => (h.1 c).2, h.2⟩) (run_main s m ρ hpi)

end Cert.KernelIdealTalk

end
-- ==== Proof.Value.Element.lean ====
/-
# One element, over the extended reals

The kernel rounds `x * SCALE`, clips it to `[-127, 127]`, stores it as an eight-bit integer, and later turns the integer
back into a float and multiplies it by the step. The clipped value is an integer between -127 and 127, so the store
keeps it exactly, and the element is `wire x`: the clipped value times the step.
-/
module

public import proofs.«01_k».proof.Proof.KernelIdeal.Protocol
public import Idealize.ShloMosaic.PureOps.Ideal

@[expose] public section

noncomputable section

namespace Cert.Value

open Idealize.ShloMosaic

/-- The value that travels: `x * SCALE` rounded to nearest even and clipped to `[-127, 127]`. -/
def level (x : EReal) : EReal :=
  min (Ideal.ofBits .f32 0x42FE0000#32)
    (max (Ideal.ofBits .f32 0xC2FE0000#32) (Ideal.liftRound Ideal.roundHalfEven (x * Ideal.ofBits .f32 0x41C5A5A6#32)))

/-- The level times the step. -/
def wire (x : EReal) : EReal := level x * Ideal.ofBits .f32 0x3D25CA5D#32

theorem hi_eq : Ideal.ofBits .f32 0x42FE0000#32 = ((127 : ℝ) : EReal) := by
  simp [Ideal.ofBits, Ideal.ieee, -EReal.coe_mul]; norm_num

theorem lo_eq : Ideal.ofBits .f32 0xC2FE0000#32 = ((-127 : ℝ) : EReal) := by
  simp [Ideal.ofBits, Ideal.ieee, -EReal.coe_mul]; norm_num

/-- The level is an integer between -127 and 127. -/
theorem level_int (x : EReal) : ∃ n : ℤ, -127 ≤ n ∧ n ≤ 127 ∧ level x = ((n : ℝ) : EReal) := by
  unfold level
  rw [hi_eq, lo_eq]
  generalize x * Ideal.ofBits .f32 0x41C5A5A6#32 = y
  induction y with
  | bot => exact ⟨-127, by norm_num, by norm_num, by
      rw [Ideal.liftRound_bot, max_eq_left bot_le, min_eq_right (by exact_mod_cast (by norm_num : (-127 : ℝ) ≤ 127))]
      norm_num⟩
  | top => exact ⟨127, by norm_num, by norm_num, by
      rw [Ideal.liftRound_top, max_eq_right le_top, min_eq_left le_top]; norm_num⟩
  | coe r =>
    refine ⟨min 127 (max (-127) (Ideal.roundHalfEven r)), by omega, by omega, ?_⟩
    rw [Ideal.liftRound_coe]
    push_cast
    rfl

/-- An integer in that range survives the store as an eight-bit integer. -/
theorem toInt_fptosi (n : ℤ) (h1 : -127 ≤ n) (h2 : n ≤ 127) : (Ideal.fptosi 8 ((n : ℝ) : EReal)).toInt = n := by
  have hc : Ideal.toIntClamped (-(2 ^ (8 - 1) : Nat)) ((2 ^ (8 - 1) : Nat) - 1) ((n : ℝ) : EReal) = n := by
    rw [Ideal.toIntClamped_coe, Int.floor_intCast, Int.ceil_intCast, ite_self]
    norm_num
    omega
  rw [Ideal.fptosi, hc]
  interval_cases n <;> rfl

/-- The store changes no level. -/
theorem sitofp_fptosi_level (x : EReal) : (((Ideal.fptosi 8 (level x)).toInt : ℝ) : EReal) = level x := by
  obtain ⟨n, h1, h2, h⟩ := level_int x
  rw [h, toInt_fptosi n h1 h2]

/-- What the kernel computes of an element is `wire`. -/
theorem dequantE_quantE (x : Ideal .f32) :
    Cert.KernelIdealTalk.dequantE (F := Ideal) (Cert.KernelIdealTalk.quantE (F := Ideal) x) = wire x := by
  show (((Ideal.fptosi 8 (level x)).toInt : ℝ) : EReal) * Ideal.ofBits .f32 0x3D25CA5D#32 = wire x
  rw [sitofp_fptosi_level]; rfl

end Cert.Value

end
-- ==== Proof.Value.Reference.lean ====
/-
# The reference at the two permutations

At `pi = [1, 0]` and at `pi = [0, 1]` the reference's sort, gather and quantiser are evaluated: result element `i` is
`wire` of the element of `x` whose block is the swapped block, or the same block, and whose other coordinates are `i`'s.
-/
module

public import proofs.«01_k».proof.Proof.Gen.ReferenceIdeal
public import proofs.«01_k».proof.Proof.Gen.ReferenceIdeal.Run
public import proofs.«01_k».proof.Proof.Words.Pre
public import proofs.«01_k».proof.Proof.Value.Element
public import Idealize.ShloMosaic.Lib.Quiescent
public import Idealize.ShloMosaic.Lib.SortFacts

@[expose] public section

noncomputable section

namespace Cert.Value

open Cert.ReferenceIdeal Cert.ReferenceIdeal.Gen
open Cert.Words (entry)

open Idealize.ShloMosaic
open Idealize.ShloMosaic.TcCoe
open Idealize.SL.Sem

/-- The permutation as a table of words. -/
abbrev table (s : Bool) : IVec S2 32 := fun i => entry s (i 0).val

/-- Where the reference reads: the other block when the blocks are swapped. -/
def flip (s : Bool) (n : Fin 2) : Fin 2 := if s then 1 - n else n

def source (s : Bool) (i : S2x512x512.Idx) : S2x512x512.Idx := fun a => match a with
  | ⟨0, _⟩ => flip s (i 0)
  | ⟨1, _⟩ => i 1
  | ⟨2, _⟩ => i 2

/-- The stable sort of a permutation of two carries the identity to the inverse, here the permutation itself. -/
theorem sorted (s : Bool) : (Host.sort2 S2 0 comparator_i32_i32_d0 (table s) (iotaInDim S2 32 0)).2 = table s := by
  funext i
  obtain ⟨k, rfl⟩ : ∃ k : Fin 2, i = Shape.Idx.ofFin k := ⟨i 0, Shape.Idx.eq_ofFin i⟩
  revert s k; decide

/-- No entry is negative, so the wrap of negative indices does nothing. -/
theorem wrapped (s : Bool) (i : S2.Idx) :
    (select (cmpi .slt (table s) (broadcastInDim S2 ![] bcast_S_S2 (constantI S_ 32 0#32)))
      (addi (table s) (broadcastInDim S2 ![] bcast_S_S2 (constantI S_ 32 2#32))) (table s) : IVec S2 32) i = table s i := by
  obtain ⟨k, rfl⟩ : ∃ k : Fin 2, i = Shape.Idx.ofFin k := ⟨i 0, Shape.Idx.eq_ofFin i⟩
  revert s k; decide

/-- The indices as the gather takes them. -/
abbrev indices (w : IVec S2 32) : IVec S2x1 32 :=
  broadcastInDim S2x1 ![0] bcast_S2_S2x1_0 (select (cmpi .slt ((Host.sort2 S2 0 comparator_i32_i32_d0 w (iotaInDim S2 32 0)).2) (broadcastInDim S2 ![] bcast_S_S2 (constantI S_ 32 0#32))) (addi ((Host.sort2 S2 0 comparator_i32_i32_d0 w (iotaInDim S2 32 0)).2) (broadcastInDim S2 ![] bcast_S_S2 (constantI S_ 32 2#32))) ((Host.sort2 S2 0 comparator_i32_i32_d0 w (iotaInDim S2 32 0)).2))

theorem indices_table (s : Bool) (j : S2x1.Idx) : indices (table s) j = entry s (j 0).val := by
  unfold indices
  rw [sorted]
  exact wrapped s _

theorem operandIdx_eq (s : Bool) (i : S2x512x512.Idx) :
    gather_S2x512x512_S2x1_S2x512x512_12_0_n_n_0_1_1512512.operandIdx i (indices (table s)) = source s i := by
  funext a
  apply Fin.ext
  match a with
  | ⟨0, _⟩ =>
    show min ((indices (table s)) _).toInt.toNat 1 + 0 + 0 = (flip s (i 0)).val
    rw [indices_table]
    show min (entry s (i 0).val).toInt.toNat 1 + 0 + 0 = (flip s (i 0)).val
    generalize i 0 = k
    revert s k; decide
  | ⟨1, _⟩ => show 0 + 0 + (i 1).val = (i 1).val; omega
  | ⟨2, _⟩ => show 0 + 0 + (i 2).val = (i 2).val; omega

/-- The reference's result at each permutation. -/
def refOut (s : Bool) (X : FVec Ideal S2x512x512 .f32) : FVec Ideal S2x512x512 .bf16 := fun i => wire (X (source s i))

theorem run_reference (s : Bool) (m : (ℓ : Loc nD τ sig) → Buf (Elt Ideal) ℓ) (ρ : Dev nD → PrngReg)
    (hw : m (((0 : Dev nD).tc : Thread nD τ).loc main_arg1) = table s) :
    θ_run defs (onTc (τ := τ) (main (F := Ideal))) ⟨m, fun _ => 0, ρ⟩ fun r =>
      r.2.mem (((0 : Dev nD).tc : Thread nD τ).loc main_v14) = refOut s (m (((0 : Dev nD).tc : Thread nD τ).loc main_arg0))
      ∧ r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1) := by
  refine (θ_run defs _ _).mono (fun _ h => ?_) (Cert.ReferenceIdeal.Value.run m ρ)
  obtain ⟨h1, h2, h3⟩ := h 0
  refine ⟨h1.trans ?_, h2, h3⟩
  rw [hw]
  funext i
  show wire (m (((0 : Dev nD).tc : Thread nD τ).loc main_arg0)
    (gather_S2x512x512_S2x1_S2x512x512_12_0_n_n_0_1_1512512.operandIdx i (indices (table s)))) = _
  rw [operandIdx_eq]
  rfl

/-- The reference leaves its arguments as they were; it has no semaphore. -/
theorem frame_reference (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun _ h => ⟨fun c => (h c).2, sem_eq_zero_of_no_sems rfl _⟩) (Cert.ReferenceIdeal.Value.run m ρ)

end Cert.Value

end
-- ==== Proof.Value.Meet.lean ====
/-
# The kernel's blocks are the reference's result

Device `c` holds block `c / 4` of `x` and of the result. It receives from device `dst s c`, whose block is the one the
reference reads for block `c / 4`; so its result block is that block of the reference's result.
-/
module

public import proofs.«01_k».proof.Proof.KernelIdeal.Frame
public import proofs.«01_k».proof.Proof.Value.Reference

@[expose] public section

noncomputable section

namespace Cert.Value

open Idealize.ShloMosaic
open Idealize.ShloMosaic.TcCoe
open Idealize.SL.Sem

/-- The block of a whole array that device `c` holds. -/
abbrev blockOf {α : Type} (c : Dev Cert.KernelIdeal.nD) (v : (⟨3, ![2, 512, 512]⟩ : Shape).Idx → α) :
    (⟨3, ![1, 512, 512]⟩ : Shape).Idx → α :=
  Layout.blockN ⟨3, ![1, 512, 512]⟩ ⟨3, ![2, 512, 512]⟩ (Layout.meshBlock [2, 2, 2] ![[0], [], []] c) v

theorem flip_dst (s : Bool) (c : Dev Cert.KernelIdeal.nD) :
    ∀ k : Fin 2, k.val = c.val / 4 → (flip s k).val = (Cert.KernelIdealTalk.dst s c).val / 4 := by
  revert s c; decide

theorem tilesN : Layout.TilesN ⟨3, ![1, 512, 512]⟩ ⟨3, ![2, 512, 512]⟩
    (fun b : Fin 3 => Layout.cutSize [2, 2, 2] ((![[0], [], []] : Fin 3 → List Nat) b)) := by decide

/-- The first coordinate of device `c`'s block is `c / 4`; the other two are the block's own. -/
theorem meshLin_zero (c : Dev Cert.KernelIdeal.nD) : Layout.meshLin [2, 2, 2] c.val [0] = c.val / 4 := by
  revert c; decide

/-- The block received is the reference's block of the array. -/
theorem source_idx (s : Bool) (c : Dev Cert.KernelIdeal.nD) (i : (⟨3, ![1, 512, 512]⟩ : Shape).Idx) :
    source s (tilesN.idx (Layout.meshBlock [2, 2, 2] ![[0], [], []] c) i)
      = tilesN.idx (Layout.meshBlock [2, 2, 2] ![[0], [], []] (Cert.KernelIdealTalk.dst s c)) i := by
  have hi : (i 0).val = 0 := Nat.lt_one_iff.1 (i 0).isLt
  funext a
  apply Fin.ext
  match a with
  | ⟨0, _⟩ =>
    rw [tilesN.idx_val]
    refine (flip_dst s c _ ?_).trans ?_
    · show Layout.meshLin [2, 2, 2] c.val [0] * 1 + (i 0).val = _
      rw [meshLin_zero, hi]; omega
    · show _ = Layout.meshLin [2, 2, 2] (Cert.KernelIdealTalk.dst s c).val [0] * 1 + (i 0).val
      rw [meshLin_zero, hi]; omega
  | ⟨1, _⟩ => rfl
  | ⟨2, _⟩ => rfl

section
open Cert.KernelIdeal

theorem result_eq (s : Bool) (m : (ℓ : Loc nD τ sig) → Buf (Elt Ideal) ℓ) (X : FVec Ideal ⟨3, ![2, 512, 512]⟩ .f32)
    (hX : ∀ c : Dev nD, m ((c.tc : Thread nD τ).loc main_arg0) = blockOf c X) (c : Dev nD) :
    Cert.KernelIdealTalk.result s m c = blockOf c (refOut s X) := by
  funext i
  show Cert.KernelIdealTalk.dequantE (F := Ideal) (Cert.KernelIdealTalk.quantE (F := Ideal)
    (m (((Cert.KernelIdealTalk.dst s c).tc : Thread nD τ).loc main_arg0) i)) = _
  rw [dequantE_quantE, hX]
  show wire (X (tilesN.idx (Layout.meshBlock [2, 2, 2] ![[0], [], []] (Cert.KernelIdealTalk.dst s c)) i))
    = wire (X (source s (tilesN.idx (Layout.meshBlock [2, 2, 2] ![[0], [], []] c) i)))
  rw [source_idx]

/-- The kernel run: each device ends with its block of the reference's result. -/
theorem run_kernel (s : Bool) (m : (ℓ : Loc nD τ sig) → Buf (Elt Ideal) ℓ) (ρ : Dev nD → PrngReg)
    (hpi : Cert.KernelIdealTalk.PreOK s m) (X : FVec Ideal ⟨3, ![2, 512, 512]⟩ .f32)
    (hX : ∀ c : Dev nD, m ((c.tc : Thread nD τ).loc main_arg0) = blockOf c X) :
    θ_run defs (onTc (τ := τ) (main (F := Ideal))) ⟨m, fun _ => 0, ρ⟩ fun r => ∀ c : Dev nD,
      r.2.mem ((c.tc : Thread nD τ).loc main_v1) = blockOf c (refOut s X)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h.1 c).1.trans (result_eq s m X hX c), (h.1 c).2⟩)
    (Cert.KernelIdealTalk.run_main s m ρ hpi)

end

/-- The reference's copy of `pi` is the devices'. -/
theorem table_swaps (w : IVec Cert.ReferenceIdeal.S2 32) (x : FVec Ideal Cert.Pre_swaps_Kernel.S1x512x512 .f32)
    (h : Cert.Pre_swaps_Kernel.fn (F := Ideal) x w = fun _ => 1#1) : w = table true :=
  funext fun i => Cert.Words.of_swaps x w h i

theorem table_stays (w : IVec Cert.ReferenceIdeal.S2 32) (x : FVec Ideal Cert.Pre_stays_Kernel.S1x512x512 .f32)
    (h : Cert.Pre_stays_Kernel.fn (F := Ideal) x w = fun _ => 1#1) : w = table false :=
  funext fun i => Cert.Words.of_stays x w h i

theorem algebraic_swaps : Cert.algebraic_KernelIdeal_ReferenceIdeal := by
  intro m g m' g' hpre hargs
  refine ⟨refOut true (m' (((0 : Dev Cert.ReferenceIdeal.nD).tc : Thread Cert.ReferenceIdeal.nD Cert.ReferenceIdeal.τ).loc
    Cert.ReferenceIdeal.main_arg0)), ?_, ?_⟩
  · exact run_kernel true m g (Cert.KernelIdealTalk.preOK_swaps m hpre) _ fun c => (hargs c).1
  · exact run_reference true m' g' ((hargs 0).2.symm.trans (table_swaps _ _ (hpre 0)))

theorem algebraic_stays : Cert.algebraic_KernelIdeal_ReferenceIdeal_pre_stays_Kernel := by
  intro m g m' g' hpre hargs
  refine ⟨refOut false (m' (((0 : Dev Cert.ReferenceIdeal.nD).tc : Thread Cert.ReferenceIdeal.nD Cert.ReferenceIdeal.τ).loc
    Cert.ReferenceIdeal.main_arg0)), ?_, ?_⟩
  · exact run_kernel false m g (Cert.KernelIdealTalk.preOK_stays m hpre) _ fun c => (hargs c).1
  · exact run_reference false m' g' ((hargs 0).2.symm.trans (table_stays _ _ (hpre 0)))

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_swaps_Kernel
public import proofs.«01_k».proof.Proof.Gen.Pre_stays_Kernel
public import proofs.«01_k».proof.Proof.Gen.Pre_swaps_ReferenceIdeal
public import proofs.«01_k».proof.Proof.Gen.Pre_stays_ReferenceIdeal
public import proofs.«01_k».proof.Proof.Kernel.Frame
public import proofs.«01_k».proof.Proof.KernelIdeal.Frame
public import proofs.«01_k».proof.Proof.Value.Meet
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_swaps_Kernel.Gen.facts, Cert.Pre_stays_Kernel.Gen.facts, Cert.Pre_swaps_ReferenceIdeal.Gen.facts, Cert.Pre_stays_ReferenceIdeal.Gen.facts,
  fun m g h => Cert.KernelTalk.frame true m g (Cert.KernelTalk.preOK_swaps m h),
  fun m g h => Cert.KernelTalk.frame false m g (Cert.KernelTalk.preOK_stays m h),
  fun m g h => Cert.KernelIdealTalk.frame true m g (Cert.KernelIdealTalk.preOK_swaps m h),
  fun m g h => Cert.KernelIdealTalk.frame false m g (Cert.KernelIdealTalk.preOK_stays m h),
  fun m g _ => Cert.Value.frame_reference m g,
  fun m g _ => Cert.Value.frame_reference m g,
  fun m g _ => Cert.Value.frame_reference m g,
  trivial,
  Cert.Value.algebraic_swaps,
  Cert.Value.algebraic_stays⟩

end Cert.Proof

end
